-- ==== Defs.lean ====
def Pre_Kernel [hPre_rolled_by_1_Kernel : Cert.Pre_rolled_by_1_Kernel.Facts] (m : (ℓ : Loc Cert.Kernel.nD Cert.Kernel.τ Cert.Kernel.sig) → Buf (Elt Bits) ℓ) : Prop :=
  ∀ c : Dev Cert.Kernel.nD,
    (Cert.Pre_rolled_by_1_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_2_Kernel [hPre_rolled_by_2_Kernel : Cert.Pre_rolled_by_2_Kernel.Facts] (m : (ℓ : Loc Cert.Kernel.nD Cert.Kernel.τ Cert.Kernel.sig) → Buf (Elt Bits) ℓ) : Prop :=
  ∀ c : Dev Cert.Kernel.nD,
    (Cert.Pre_rolled_by_2_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_3_Kernel [hPre_rolled_by_3_Kernel : Cert.Pre_rolled_by_3_Kernel.Facts] (m : (ℓ : Loc Cert.Kernel.nD Cert.Kernel.τ Cert.Kernel.sig) → Buf (Elt Bits) ℓ) : Prop :=
  ∀ c : Dev Cert.Kernel.nD,
    (Cert.Pre_rolled_by_3_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_4_Kernel [hPre_rolled_by_4_Kernel : Cert.Pre_rolled_by_4_Kernel.Facts] (m : (ℓ : Loc Cert.Kernel.nD Cert.Kernel.τ Cert.Kernel.sig) → Buf (Elt Bits) ℓ) : Prop :=
  ∀ c : Dev Cert.Kernel.nD,
    (Cert.Pre_rolled_by_4_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_5_Kernel [hPre_rolled_by_5_Kernel : Cert.Pre_rolled_by_5_Kernel.Facts] (m : (ℓ : Loc Cert.Kernel.nD Cert.Kernel.τ Cert.Kernel.sig) → Buf (Elt Bits) ℓ) : Prop :=
  ∀ c : Dev Cert.Kernel.nD,
    (Cert.Pre_rolled_by_5_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_6_Kernel [hPre_rolled_by_6_Kernel : Cert.Pre_rolled_by_6_Kernel.Facts] (m : (ℓ : Loc Cert.Kernel.nD Cert.Kernel.τ Cert.Kernel.sig) → Buf (Elt Bits) ℓ) : Prop :=
  ∀ c : Dev Cert.Kernel.nD,
    (Cert.Pre_rolled_by_6_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_7_Kernel [hPre_rolled_by_7_Kernel : Cert.Pre_rolled_by_7_Kernel.Facts] (m : (ℓ : Loc Cert.Kernel.nD Cert.Kernel.τ Cert.Kernel.sig) → Buf (Elt Bits) ℓ) : Prop :=
  ∀ c : Dev Cert.Kernel.nD,
    (Cert.Pre_rolled_by_7_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_8_Kernel [hPre_rolled_by_8_Kernel : Cert.Pre_rolled_by_8_Kernel.Facts] (m : (ℓ : Loc Cert.Kernel.nD Cert.Kernel.τ Cert.Kernel.sig) → Buf (Elt Bits) ℓ) : Prop :=
  ∀ c : Dev Cert.Kernel.nD,
    (Cert.Pre_rolled_by_8_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_9_Kernel [hPre_rolled_by_9_Kernel : Cert.Pre_rolled_by_9_Kernel.Facts] (m : (ℓ : Loc Cert.Kernel.nD Cert.Kernel.τ Cert.Kernel.sig) → Buf (Elt Bits) ℓ) : Prop :=
  ∀ c : Dev Cert.Kernel.nD,
    (Cert.Pre_rolled_by_9_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_10_Kernel [hPre_rolled_by_10_Kernel : Cert.Pre_rolled_by_10_Kernel.Facts] (m : (ℓ : Loc Cert.Kernel.nD Cert.Kernel.τ Cert.Kernel.sig) → Buf (Elt Bits) ℓ) : Prop :=
  ∀ c : Dev Cert.Kernel.nD,
    (Cert.Pre_rolled_by_10_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_11_Kernel [hPre_rolled_by_11_Kernel : Cert.Pre_rolled_by_11_Kernel.Facts] (m : (ℓ : Loc Cert.Kernel.nD Cert.Kernel.τ Cert.Kernel.sig) → Buf (Elt Bits) ℓ) : Prop :=
  ∀ c : Dev Cert.Kernel.nD,
    (Cert.Pre_rolled_by_11_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_12_Kernel [hPre_rolled_by_12_Kernel : Cert.Pre_rolled_by_12_Kernel.Facts] (m : (ℓ : Loc Cert.Kernel.nD Cert.Kernel.τ Cert.Kernel.sig) → Buf (Elt Bits) ℓ) : Prop :=
  ∀ c : Dev Cert.Kernel.nD,
    (Cert.Pre_rolled_by_12_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_13_Kernel [hPre_rolled_by_13_Kernel : Cert.Pre_rolled_by_13_Kernel.Facts] (m : (ℓ : Loc Cert.Kernel.nD Cert.Kernel.τ Cert.Kernel.sig) → Buf (Elt Bits) ℓ) : Prop :=
  ∀ c : Dev Cert.Kernel.nD,
    (Cert.Pre_rolled_by_13_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_14_Kernel [hPre_rolled_by_14_Kernel : Cert.Pre_rolled_by_14_Kernel.Facts] (m : (ℓ : Loc Cert.Kernel.nD Cert.Kernel.τ Cert.Kernel.sig) → Buf (Elt Bits) ℓ) : Prop :=
  ∀ c : Dev Cert.Kernel.nD,
    (Cert.Pre_rolled_by_14_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_rolled_by_15_Kernel [hPre_rolled_by_15_Kernel : Cert.Pre_rolled_by_15_Kernel.Facts] (m : (ℓ : Loc Cert.Kernel.nD Cert.Kernel.τ Cert.Kernel.sig) → Buf (Elt Bits) ℓ) : Prop :=
  ∀ c : Dev Cert.Kernel.nD,
    (Cert.Pre_rolled_by_15_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_rolled_by_1_Kernel : Cert.Pre_rolled_by_1_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_1_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_2_Kernel [hPre_rolled_by_2_Kernel : Cert.Pre_rolled_by_2_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_2_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_3_Kernel [hPre_rolled_by_3_Kernel : Cert.Pre_rolled_by_3_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_3_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_4_Kernel [hPre_rolled_by_4_Kernel : Cert.Pre_rolled_by_4_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_4_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_5_Kernel [hPre_rolled_by_5_Kernel : Cert.Pre_rolled_by_5_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_5_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_6_Kernel [hPre_rolled_by_6_Kernel : Cert.Pre_rolled_by_6_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_6_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_7_Kernel [hPre_rolled_by_7_Kernel : Cert.Pre_rolled_by_7_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_7_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_8_Kernel [hPre_rolled_by_8_Kernel : Cert.Pre_rolled_by_8_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_8_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_9_Kernel [hPre_rolled_by_9_Kernel : Cert.Pre_rolled_by_9_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_9_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_10_Kernel [hPre_rolled_by_10_Kernel : Cert.Pre_rolled_by_10_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_10_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_11_Kernel [hPre_rolled_by_11_Kernel : Cert.Pre_rolled_by_11_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_11_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_12_Kernel [hPre_rolled_by_12_Kernel : Cert.Pre_rolled_by_12_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_12_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_13_Kernel [hPre_rolled_by_13_Kernel : Cert.Pre_rolled_by_13_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_13_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_14_Kernel [hPre_rolled_by_14_Kernel : Cert.Pre_rolled_by_14_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_14_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rolled_by_15_Kernel [hPre_rolled_by_15_Kernel : Cert.Pre_rolled_by_15_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_rolled_by_15_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rolled_by_1_ReferenceIdeal [hPre_rolled_by_1_ReferenceIdeal : Cert.Pre_rolled_by_1_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_1_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_2_ReferenceIdeal [hPre_rolled_by_2_ReferenceIdeal : Cert.Pre_rolled_by_2_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_2_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_3_ReferenceIdeal [hPre_rolled_by_3_ReferenceIdeal : Cert.Pre_rolled_by_3_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_3_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_4_ReferenceIdeal [hPre_rolled_by_4_ReferenceIdeal : Cert.Pre_rolled_by_4_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_4_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_5_ReferenceIdeal [hPre_rolled_by_5_ReferenceIdeal : Cert.Pre_rolled_by_5_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_5_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_6_ReferenceIdeal [hPre_rolled_by_6_ReferenceIdeal : Cert.Pre_rolled_by_6_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_6_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_7_ReferenceIdeal [hPre_rolled_by_7_ReferenceIdeal : Cert.Pre_rolled_by_7_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_7_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_8_ReferenceIdeal [hPre_rolled_by_8_ReferenceIdeal : Cert.Pre_rolled_by_8_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_8_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_9_ReferenceIdeal [hPre_rolled_by_9_ReferenceIdeal : Cert.Pre_rolled_by_9_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_9_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_10_ReferenceIdeal [hPre_rolled_by_10_ReferenceIdeal : Cert.Pre_rolled_by_10_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_10_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_11_ReferenceIdeal [hPre_rolled_by_11_ReferenceIdeal : Cert.Pre_rolled_by_11_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_11_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_12_ReferenceIdeal [hPre_rolled_by_12_ReferenceIdeal : Cert.Pre_rolled_by_12_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_12_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_13_ReferenceIdeal [hPre_rolled_by_13_ReferenceIdeal : Cert.Pre_rolled_by_13_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_13_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_14_ReferenceIdeal [hPre_rolled_by_14_ReferenceIdeal : Cert.Pre_rolled_by_14_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_14_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_rolled_by_15_ReferenceIdeal [hPre_rolled_by_15_ReferenceIdeal : Cert.Pre_rolled_by_15_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rolled_by_15_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_rolled_by_1_Kernel : Cert.Pre_rolled_by_1_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_2_Kernel [hKernel : Cert.Kernel.Facts] [hPre_rolled_by_2_Kernel : Cert.Pre_rolled_by_2_Kernel.Facts] : Prop :=
  ∀ (m : (ℓ : Loc Cert.Kernel.nD Cert.Kernel.τ Cert.Kernel.sig) → Buf (Elt Bits) ℓ) (g : Dev Cert.Kernel.nD → PrngReg), Pre_Kernel_rolled_by_2_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_3_Kernel [hKernel : Cert.Kernel.Facts] [hPre_rolled_by_3_Kernel : Cert.Pre_rolled_by_3_Kernel.Facts] : Prop :=
  ∀ (m : (ℓ : Loc Cert.Kernel.nD Cert.Kernel.τ Cert.Kernel.sig) → Buf (Elt Bits) ℓ) (g : Dev Cert.Kernel.nD → PrngReg), Pre_Kernel_rolled_by_3_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_4_Kernel [hKernel : Cert.Kernel.Facts] [hPre_rolled_by_4_Kernel : Cert.Pre_rolled_by_4_Kernel.Facts] : Prop :=
  ∀ (m : (ℓ : Loc Cert.Kernel.nD Cert.Kernel.τ Cert.Kernel.sig) → Buf (Elt Bits) ℓ) (g : Dev Cert.Kernel.nD → PrngReg), Pre_Kernel_rolled_by_4_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_5_Kernel [hKernel : Cert.Kernel.Facts] [hPre_rolled_by_5_Kernel : Cert.Pre_rolled_by_5_Kernel.Facts] : Prop :=
  ∀ (m : (ℓ : Loc Cert.Kernel.nD Cert.Kernel.τ Cert.Kernel.sig) → Buf (Elt Bits) ℓ) (g : Dev Cert.Kernel.nD → PrngReg), Pre_Kernel_rolled_by_5_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_6_Kernel [hKernel : Cert.Kernel.Facts] [hPre_rolled_by_6_Kernel : Cert.Pre_rolled_by_6_Kernel.Facts] : Prop :=
  ∀ (m : (ℓ : Loc Cert.Kernel.nD Cert.Kernel.τ Cert.Kernel.sig) → Buf (Elt Bits) ℓ) (g : Dev Cert.Kernel.nD → PrngReg), Pre_Kernel_rolled_by_6_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_7_Kernel [hKernel : Cert.Kernel.Facts] [hPre_rolled_by_7_Kernel : Cert.Pre_rolled_by_7_Kernel.Facts] : Prop :=
  ∀ (m : (ℓ : Loc Cert.Kernel.nD Cert.Kernel.τ Cert.Kernel.sig) → Buf (Elt Bits) ℓ) (g : Dev Cert.Kernel.nD → PrngReg), Pre_Kernel_rolled_by_7_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_8_Kernel [hKernel : Cert.Kernel.Facts] [hPre_rolled_by_8_Kernel : Cert.Pre_rolled_by_8_Kernel.Facts] : Prop :=
  ∀ (m : (ℓ : Loc Cert.Kernel.nD Cert.Kernel.τ Cert.Kernel.sig) → Buf (Elt Bits) ℓ) (g : Dev Cert.Kernel.nD → PrngReg), Pre_Kernel_rolled_by_8_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_9_Kernel [hKernel : Cert.Kernel.Facts] [hPre_rolled_by_9_Kernel : Cert.Pre_rolled_by_9_Kernel.Facts] : Prop :=
  ∀ (m : (ℓ : Loc Cert.Kernel.nD Cert.Kernel.τ Cert.Kernel.sig) → Buf (Elt Bits) ℓ) (g : Dev Cert.Kernel.nD → PrngReg), Pre_Kernel_rolled_by_9_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_10_Kernel [hKernel : Cert.Kernel.Facts] [hPre_rolled_by_10_Kernel : Cert.Pre_rolled_by_10_Kernel.Facts] : Prop :=
  ∀ (m : (ℓ : Loc Cert.Kernel.nD Cert.Kernel.τ Cert.Kernel.sig) → Buf (Elt Bits) ℓ) (g : Dev Cert.Kernel.nD → PrngReg), Pre_Kernel_rolled_by_10_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_11_Kernel [hKernel : Cert.Kernel.Facts] [hPre_rolled_by_11_Kernel : Cert.Pre_rolled_by_11_Kernel.Facts] : Prop :=
  ∀ (m : (ℓ : Loc Cert.Kernel.nD Cert.Kernel.τ Cert.Kernel.sig) → Buf (Elt Bits) ℓ) (g : Dev Cert.Kernel.nD → PrngReg), Pre_Kernel_rolled_by_11_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_12_Kernel [hKernel : Cert.Kernel.Facts] [hPre_rolled_by_12_Kernel : Cert.Pre_rolled_by_12_Kernel.Facts] : Prop :=
  ∀ (m : (ℓ : Loc Cert.Kernel.nD Cert.Kernel.τ Cert.Kernel.sig) → Buf (Elt Bits) ℓ) (g : Dev Cert.Kernel.nD → PrngReg), Pre_Kernel_rolled_by_12_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_13_Kernel [hKernel : Cert.Kernel.Facts] [hPre_rolled_by_13_Kernel : Cert.Pre_rolled_by_13_Kernel.Facts] : Prop :=
  ∀ (m : (ℓ : Loc Cert.Kernel.nD Cert.Kernel.τ Cert.Kernel.sig) → Buf (Elt Bits) ℓ) (g : Dev Cert.Kernel.nD → PrngReg), Pre_Kernel_rolled_by_13_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_14_Kernel [hKernel : Cert.Kernel.Facts] [hPre_rolled_by_14_Kernel : Cert.Pre_rolled_by_14_Kernel.Facts] : Prop :=
  ∀ (m : (ℓ : Loc Cert.Kernel.nD Cert.Kernel.τ Cert.Kernel.sig) → Buf (Elt Bits) ℓ) (g : Dev Cert.Kernel.nD → PrngReg), Pre_Kernel_rolled_by_14_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_rolled_by_15_Kernel [hKernel : Cert.Kernel.Facts] [hPre_rolled_by_15_Kernel : Cert.Pre_rolled_by_15_Kernel.Facts] : Prop :=
  ∀ (m : (ℓ : Loc Cert.Kernel.nD Cert.Kernel.τ Cert.Kernel.sig) → Buf (Elt Bits) ℓ) (g : Dev Cert.Kernel.nD → PrngReg), Pre_Kernel_rolled_by_15_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_rolled_by_1_Kernel : Cert.Pre_rolled_by_1_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_2_Kernel [hKernelIdeal : Cert.KernelIdeal.Facts] [hPre_rolled_by_2_Kernel : Cert.Pre_rolled_by_2_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_2_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_3_Kernel [hKernelIdeal : Cert.KernelIdeal.Facts] [hPre_rolled_by_3_Kernel : Cert.Pre_rolled_by_3_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_3_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_4_Kernel [hKernelIdeal : Cert.KernelIdeal.Facts] [hPre_rolled_by_4_Kernel : Cert.Pre_rolled_by_4_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_4_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_5_Kernel [hKernelIdeal : Cert.KernelIdeal.Facts] [hPre_rolled_by_5_Kernel : Cert.Pre_rolled_by_5_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_5_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_6_Kernel [hKernelIdeal : Cert.KernelIdeal.Facts] [hPre_rolled_by_6_Kernel : Cert.Pre_rolled_by_6_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_6_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_7_Kernel [hKernelIdeal : Cert.KernelIdeal.Facts] [hPre_rolled_by_7_Kernel : Cert.Pre_rolled_by_7_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_7_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_8_Kernel [hKernelIdeal : Cert.KernelIdeal.Facts] [hPre_rolled_by_8_Kernel : Cert.Pre_rolled_by_8_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_8_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_9_Kernel [hKernelIdeal : Cert.KernelIdeal.Facts] [hPre_rolled_by_9_Kernel : Cert.Pre_rolled_by_9_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_9_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_10_Kernel [hKernelIdeal : Cert.KernelIdeal.Facts] [hPre_rolled_by_10_Kernel : Cert.Pre_rolled_by_10_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_10_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_11_Kernel [hKernelIdeal : Cert.KernelIdeal.Facts] [hPre_rolled_by_11_Kernel : Cert.Pre_rolled_by_11_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_11_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_12_Kernel [hKernelIdeal : Cert.KernelIdeal.Facts] [hPre_rolled_by_12_Kernel : Cert.Pre_rolled_by_12_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_12_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_13_Kernel [hKernelIdeal : Cert.KernelIdeal.Facts] [hPre_rolled_by_13_Kernel : Cert.Pre_rolled_by_13_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_13_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_14_Kernel [hKernelIdeal : Cert.KernelIdeal.Facts] [hPre_rolled_by_14_Kernel : Cert.Pre_rolled_by_14_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_14_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rolled_by_15_Kernel [hKernelIdeal : Cert.KernelIdeal.Facts] [hPre_rolled_by_15_Kernel : Cert.Pre_rolled_by_15_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rolled_by_15_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_1_ReferenceIdeal [hReferenceIdeal : Cert.ReferenceIdeal.Facts] [hPre_rolled_by_1_ReferenceIdeal : Cert.Pre_rolled_by_1_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_1_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_2_ReferenceIdeal [hReferenceIdeal : Cert.ReferenceIdeal.Facts] [hPre_rolled_by_2_ReferenceIdeal : Cert.Pre_rolled_by_2_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_2_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_3_ReferenceIdeal [hReferenceIdeal : Cert.ReferenceIdeal.Facts] [hPre_rolled_by_3_ReferenceIdeal : Cert.Pre_rolled_by_3_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_3_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_4_ReferenceIdeal [hReferenceIdeal : Cert.ReferenceIdeal.Facts] [hPre_rolled_by_4_ReferenceIdeal : Cert.Pre_rolled_by_4_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_4_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_5_ReferenceIdeal [hReferenceIdeal : Cert.ReferenceIdeal.Facts] [hPre_rolled_by_5_ReferenceIdeal : Cert.Pre_rolled_by_5_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_5_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_6_ReferenceIdeal [hReferenceIdeal : Cert.ReferenceIdeal.Facts] [hPre_rolled_by_6_ReferenceIdeal : Cert.Pre_rolled_by_6_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_6_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_7_ReferenceIdeal [hReferenceIdeal : Cert.ReferenceIdeal.Facts] [hPre_rolled_by_7_ReferenceIdeal : Cert.Pre_rolled_by_7_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_7_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_8_ReferenceIdeal [hReferenceIdeal : Cert.ReferenceIdeal.Facts] [hPre_rolled_by_8_ReferenceIdeal : Cert.Pre_rolled_by_8_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_8_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_9_ReferenceIdeal [hReferenceIdeal : Cert.ReferenceIdeal.Facts] [hPre_rolled_by_9_ReferenceIdeal : Cert.Pre_rolled_by_9_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_9_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_10_ReferenceIdeal [hReferenceIdeal : Cert.ReferenceIdeal.Facts] [hPre_rolled_by_10_ReferenceIdeal : Cert.Pre_rolled_by_10_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_10_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_11_ReferenceIdeal [hReferenceIdeal : Cert.ReferenceIdeal.Facts] [hPre_rolled_by_11_ReferenceIdeal : Cert.Pre_rolled_by_11_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_11_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_12_ReferenceIdeal [hReferenceIdeal : Cert.ReferenceIdeal.Facts] [hPre_rolled_by_12_ReferenceIdeal : Cert.Pre_rolled_by_12_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_12_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_13_ReferenceIdeal [hReferenceIdeal : Cert.ReferenceIdeal.Facts] [hPre_rolled_by_13_ReferenceIdeal : Cert.Pre_rolled_by_13_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_13_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_14_ReferenceIdeal [hReferenceIdeal : Cert.ReferenceIdeal.Facts] [hPre_rolled_by_14_ReferenceIdeal : Cert.Pre_rolled_by_14_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_14_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rolled_by_15_ReferenceIdeal [hReferenceIdeal : Cert.ReferenceIdeal.Facts] [hPre_rolled_by_15_ReferenceIdeal : Cert.Pre_rolled_by_15_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rolled_by_15_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rolled_by_1_Kernel : Cert.Pre_rolled_by_1_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 256, 256]⟩ ⟨3, ![16, 256, 256]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![16, 256, 256]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_2_Kernel [hKernelIdeal : Cert.KernelIdeal.Facts] [hReferenceIdeal : Cert.ReferenceIdeal.Facts] [hPre_rolled_by_2_Kernel : Cert.Pre_rolled_by_2_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_2_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![16, 256, 256]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![16, 256, 256]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_3_Kernel [hKernelIdeal : Cert.KernelIdeal.Facts] [hReferenceIdeal : Cert.ReferenceIdeal.Facts] [hPre_rolled_by_3_Kernel : Cert.Pre_rolled_by_3_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_3_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![16, 256, 256]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![16, 256, 256]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_4_Kernel [hKernelIdeal : Cert.KernelIdeal.Facts] [hReferenceIdeal : Cert.ReferenceIdeal.Facts] [hPre_rolled_by_4_Kernel : Cert.Pre_rolled_by_4_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_4_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![16, 256, 256]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![16, 256, 256]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_5_Kernel [hKernelIdeal : Cert.KernelIdeal.Facts] [hReferenceIdeal : Cert.ReferenceIdeal.Facts] [hPre_rolled_by_5_Kernel : Cert.Pre_rolled_by_5_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_5_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![16, 256, 256]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![16, 256, 256]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_6_Kernel [hKernelIdeal : Cert.KernelIdeal.Facts] [hReferenceIdeal : Cert.ReferenceIdeal.Facts] [hPre_rolled_by_6_Kernel : Cert.Pre_rolled_by_6_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_6_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![16, 256, 256]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![16, 256, 256]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_7_Kernel [hKernelIdeal : Cert.KernelIdeal.Facts] [hReferenceIdeal : Cert.ReferenceIdeal.Facts] [hPre_rolled_by_7_Kernel : Cert.Pre_rolled_by_7_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_7_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![16, 256, 256]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![16, 256, 256]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_8_Kernel [hKernelIdeal : Cert.KernelIdeal.Facts] [hReferenceIdeal : Cert.ReferenceIdeal.Facts] [hPre_rolled_by_8_Kernel : Cert.Pre_rolled_by_8_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_8_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![16, 256, 256]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![16, 256, 256]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_9_Kernel [hKernelIdeal : Cert.KernelIdeal.Facts] [hReferenceIdeal : Cert.ReferenceIdeal.Facts] [hPre_rolled_by_9_Kernel : Cert.Pre_rolled_by_9_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_9_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![16, 256, 256]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![16, 256, 256]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_10_Kernel [hKernelIdeal : Cert.KernelIdeal.Facts] [hReferenceIdeal : Cert.ReferenceIdeal.Facts] [hPre_rolled_by_10_Kernel : Cert.Pre_rolled_by_10_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_10_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![16, 256, 256]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![16, 256, 256]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_11_Kernel [hKernelIdeal : Cert.KernelIdeal.Facts] [hReferenceIdeal : Cert.ReferenceIdeal.Facts] [hPre_rolled_by_11_Kernel : Cert.Pre_rolled_by_11_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_11_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![16, 256, 256]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![16, 256, 256]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_12_Kernel [hKernelIdeal : Cert.KernelIdeal.Facts] [hReferenceIdeal : Cert.ReferenceIdeal.Facts] [hPre_rolled_by_12_Kernel : Cert.Pre_rolled_by_12_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_12_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![16, 256, 256]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![16, 256, 256]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_13_Kernel [hKernelIdeal : Cert.KernelIdeal.Facts] [hReferenceIdeal : Cert.ReferenceIdeal.Facts] [hPre_rolled_by_13_Kernel : Cert.Pre_rolled_by_13_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_13_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![16, 256, 256]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![16, 256, 256]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_14_Kernel [hKernelIdeal : Cert.KernelIdeal.Facts] [hReferenceIdeal : Cert.ReferenceIdeal.Facts] [hPre_rolled_by_14_Kernel : Cert.Pre_rolled_by_14_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_14_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![16, 256, 256]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![16, 256, 256]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_rolled_by_15_Kernel [hKernelIdeal : Cert.KernelIdeal.Facts] [hReferenceIdeal : Cert.ReferenceIdeal.Facts] [hPre_rolled_by_15_Kernel : Cert.Pre_rolled_by_15_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rolled_by_15_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![16, 256, 256]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![16, 256, 256]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_rolled_by_1_Kernel : Cert.Pre_rolled_by_1_Kernel.Facts) (hPre_rolled_by_2_Kernel : Cert.Pre_rolled_by_2_Kernel.Facts) (hPre_rolled_by_3_Kernel : Cert.Pre_rolled_by_3_Kernel.Facts) (hPre_rolled_by_4_Kernel : Cert.Pre_rolled_by_4_Kernel.Facts) (hPre_rolled_by_5_Kernel : Cert.Pre_rolled_by_5_Kernel.Facts) (hPre_rolled_by_6_Kernel : Cert.Pre_rolled_by_6_Kernel.Facts) (hPre_rolled_by_7_Kernel : Cert.Pre_rolled_by_7_Kernel.Facts) (hPre_rolled_by_8_Kernel : Cert.Pre_rolled_by_8_Kernel.Facts) (hPre_rolled_by_9_Kernel : Cert.Pre_rolled_by_9_Kernel.Facts) (hPre_rolled_by_10_Kernel : Cert.Pre_rolled_by_10_Kernel.Facts) (hPre_rolled_by_11_Kernel : Cert.Pre_rolled_by_11_Kernel.Facts) (hPre_rolled_by_12_Kernel : Cert.Pre_rolled_by_12_Kernel.Facts) (hPre_rolled_by_13_Kernel : Cert.Pre_rolled_by_13_Kernel.Facts) (hPre_rolled_by_14_Kernel : Cert.Pre_rolled_by_14_Kernel.Facts) (hPre_rolled_by_15_Kernel : Cert.Pre_rolled_by_15_Kernel.Facts) (hPre_rolled_by_1_ReferenceIdeal : Cert.Pre_rolled_by_1_ReferenceIdeal.Facts) (hPre_rolled_by_2_ReferenceIdeal : Cert.Pre_rolled_by_2_ReferenceIdeal.Facts) (hPre_rolled_by_3_ReferenceIdeal : Cert.Pre_rolled_by_3_ReferenceIdeal.Facts) (hPre_rolled_by_4_ReferenceIdeal : Cert.Pre_rolled_by_4_ReferenceIdeal.Facts) (hPre_rolled_by_5_ReferenceIdeal : Cert.Pre_rolled_by_5_ReferenceIdeal.Facts) (hPre_rolled_by_6_ReferenceIdeal : Cert.Pre_rolled_by_6_ReferenceIdeal.Facts) (hPre_rolled_by_7_ReferenceIdeal : Cert.Pre_rolled_by_7_ReferenceIdeal.Facts) (hPre_rolled_by_8_ReferenceIdeal : Cert.Pre_rolled_by_8_ReferenceIdeal.Facts) (hPre_rolled_by_9_ReferenceIdeal : Cert.Pre_rolled_by_9_ReferenceIdeal.Facts) (hPre_rolled_by_10_ReferenceIdeal : Cert.Pre_rolled_by_10_ReferenceIdeal.Facts) (hPre_rolled_by_11_ReferenceIdeal : Cert.Pre_rolled_by_11_ReferenceIdeal.Facts) (hPre_rolled_by_12_ReferenceIdeal : Cert.Pre_rolled_by_12_ReferenceIdeal.Facts) (hPre_rolled_by_13_ReferenceIdeal : Cert.Pre_rolled_by_13_ReferenceIdeal.Facts) (hPre_rolled_by_14_ReferenceIdeal : Cert.Pre_rolled_by_14_ReferenceIdeal.Facts) (hPre_rolled_by_15_ReferenceIdeal : Cert.Pre_rolled_by_15_ReferenceIdeal.Facts),
    quiescent_Kernel (hKernel := hKernel) (hPre_rolled_by_1_Kernel := hPre_rolled_by_1_Kernel)
    ∧ quiescent_Kernel_pre_rolled_by_2_Kernel (hKernel := hKernel) (hPre_rolled_by_2_Kernel := hPre_rolled_by_2_Kernel)
    ∧ quiescent_Kernel_pre_rolled_by_3_Kernel (hKernel := hKernel) (hPre_rolled_by_3_Kernel := hPre_rolled_by_3_Kernel)
    ∧ quiescent_Kernel_pre_rolled_by_4_Kernel (hKernel := hKernel) (hPre_rolled_by_4_Kernel := hPre_rolled_by_4_Kernel)
    ∧ quiescent_Kernel_pre_rolled_by_5_Kernel (hKernel := hKernel) (hPre_rolled_by_5_Kernel := hPre_rolled_by_5_Kernel)
    ∧ quiescent_Kernel_pre_rolled_by_6_Kernel (hKernel := hKernel) (hPre_rolled_by_6_Kernel := hPre_rolled_by_6_Kernel)
    ∧ quiescent_Kernel_pre_rolled_by_7_Kernel (hKernel := hKernel) (hPre_rolled_by_7_Kernel := hPre_rolled_by_7_Kernel)
    ∧ quiescent_Kernel_pre_rolled_by_8_Kernel (hKernel := hKernel) (hPre_rolled_by_8_Kernel := hPre_rolled_by_8_Kernel)
    ∧ quiescent_Kernel_pre_rolled_by_9_Kernel (hKernel := hKernel) (hPre_rolled_by_9_Kernel := hPre_rolled_by_9_Kernel)
    ∧ quiescent_Kernel_pre_rolled_by_10_Kernel (hKernel := hKernel) (hPre_rolled_by_10_Kernel := hPre_rolled_by_10_Kernel)
    ∧ quiescent_Kernel_pre_rolled_by_11_Kernel (hKernel := hKernel) (hPre_rolled_by_11_Kernel := hPre_rolled_by_11_Kernel)
    ∧ quiescent_Kernel_pre_rolled_by_12_Kernel (hKernel := hKernel) (hPre_rolled_by_12_Kernel := hPre_rolled_by_12_Kernel)
    ∧ quiescent_Kernel_pre_rolled_by_13_Kernel (hKernel := hKernel) (hPre_rolled_by_13_Kernel := hPre_rolled_by_13_Kernel)
    ∧ quiescent_Kernel_pre_rolled_by_14_Kernel (hKernel := hKernel) (hPre_rolled_by_14_Kernel := hPre_rolled_by_14_Kernel)
    ∧ quiescent_Kernel_pre_rolled_by_15_Kernel (hKernel := hKernel) (hPre_rolled_by_15_Kernel := hPre_rolled_by_15_Kernel)
    ∧ quiescent_KernelIdeal (hKernelIdeal := hKernelIdeal) (hPre_rolled_by_1_Kernel := hPre_rolled_by_1_Kernel)
    ∧ quiescent_KernelIdeal_pre_rolled_by_2_Kernel (hKernelIdeal := hKernelIdeal) (hPre_rolled_by_2_Kernel := hPre_rolled_by_2_Kernel)
    ∧ quiescent_KernelIdeal_pre_rolled_by_3_Kernel (hKernelIdeal := hKernelIdeal) (hPre_rolled_by_3_Kernel := hPre_rolled_by_3_Kernel)
    ∧ quiescent_KernelIdeal_pre_rolled_by_4_Kernel (hKernelIdeal := hKernelIdeal) (hPre_rolled_by_4_Kernel := hPre_rolled_by_4_Kernel)
    ∧ quiescent_KernelIdeal_pre_rolled_by_5_Kernel (hKernelIdeal := hKernelIdeal) (hPre_rolled_by_5_Kernel := hPre_rolled_by_5_Kernel)
    ∧ quiescent_KernelIdeal_pre_rolled_by_6_Kernel (hKernelIdeal := hKernelIdeal) (hPre_rolled_by_6_Kernel := hPre_rolled_by_6_Kernel)
    ∧ quiescent_KernelIdeal_pre_rolled_by_7_Kernel (hKernelIdeal := hKernelIdeal) (hPre_rolled_by_7_Kernel := hPre_rolled_by_7_Kernel)
    ∧ quiescent_KernelIdeal_pre_rolled_by_8_Kernel (hKernelIdeal := hKernelIdeal) (hPre_rolled_by_8_Kernel := hPre_rolled_by_8_Kernel)
    ∧ quiescent_KernelIdeal_pre_rolled_by_9_Kernel (hKernelIdeal := hKernelIdeal) (hPre_rolled_by_9_Kernel := hPre_rolled_by_9_Kernel)
    ∧ quiescent_KernelIdeal_pre_rolled_by_10_Kernel (hKernelIdeal := hKernelIdeal) (hPre_rolled_by_10_Kernel := hPre_rolled_by_10_Kernel)
    ∧ quiescent_KernelIdeal_pre_rolled_by_11_Kernel (hKernelIdeal := hKernelIdeal) (hPre_rolled_by_11_Kernel := hPre_rolled_by_11_Kernel)
    ∧ quiescent_KernelIdeal_pre_rolled_by_12_Kernel (hKernelIdeal := hKernelIdeal) (hPre_rolled_by_12_Kernel := hPre_rolled_by_12_Kernel)
    ∧ quiescent_KernelIdeal_pre_rolled_by_13_Kernel (hKernelIdeal := hKernelIdeal) (hPre_rolled_by_13_Kernel := hPre_rolled_by_13_Kernel)
    ∧ quiescent_KernelIdeal_pre_rolled_by_14_Kernel (hKernelIdeal := hKernelIdeal) (hPre_rolled_by_14_Kernel := hPre_rolled_by_14_Kernel)
    ∧ quiescent_KernelIdeal_pre_rolled_by_15_Kernel (hKernelIdeal := hKernelIdeal) (hPre_rolled_by_15_Kernel := hPre_rolled_by_15_Kernel)
    ∧ quiescent_ReferenceIdeal (hReferenceIdeal := hReferenceIdeal)
    ∧ quiescent_ReferenceIdeal_pre_rolled_by_1_ReferenceIdeal (hReferenceIdeal := hReferenceIdeal) (hPre_rolled_by_1_ReferenceIdeal := hPre_rolled_by_1_ReferenceIdeal)
    ∧ quiescent_ReferenceIdeal_pre_rolled_by_2_ReferenceIdeal (hReferenceIdeal := hReferenceIdeal) (hPre_rolled_by_2_ReferenceIdeal := hPre_rolled_by_2_ReferenceIdeal)
    ∧ quiescent_ReferenceIdeal_pre_rolled_by_3_ReferenceIdeal (hReferenceIdeal := hReferenceIdeal) (hPre_rolled_by_3_ReferenceIdeal := hPre_rolled_by_3_ReferenceIdeal)
    ∧ quiescent_ReferenceIdeal_pre_rolled_by_4_ReferenceIdeal (hReferenceIdeal := hReferenceIdeal) (hPre_rolled_by_4_ReferenceIdeal := hPre_rolled_by_4_ReferenceIdeal)
    ∧ quiescent_ReferenceIdeal_pre_rolled_by_5_ReferenceIdeal (hReferenceIdeal := hReferenceIdeal) (hPre_rolled_by_5_ReferenceIdeal := hPre_rolled_by_5_ReferenceIdeal)
    ∧ quiescent_ReferenceIdeal_pre_rolled_by_6_ReferenceIdeal (hReferenceIdeal := hReferenceIdeal) (hPre_rolled_by_6_ReferenceIdeal := hPre_rolled_by_6_ReferenceIdeal)
    ∧ quiescent_ReferenceIdeal_pre_rolled_by_7_ReferenceIdeal (hReferenceIdeal := hReferenceIdeal) (hPre_rolled_by_7_ReferenceIdeal := hPre_rolled_by_7_ReferenceIdeal)
    ∧ quiescent_ReferenceIdeal_pre_rolled_by_8_ReferenceIdeal (hReferenceIdeal := hReferenceIdeal) (hPre_rolled_by_8_ReferenceIdeal := hPre_rolled_by_8_ReferenceIdeal)
    ∧ quiescent_ReferenceIdeal_pre_rolled_by_9_ReferenceIdeal (hReferenceIdeal := hReferenceIdeal) (hPre_rolled_by_9_ReferenceIdeal := hPre_rolled_by_9_ReferenceIdeal)
    ∧ quiescent_ReferenceIdeal_pre_rolled_by_10_ReferenceIdeal (hReferenceIdeal := hReferenceIdeal) (hPre_rolled_by_10_ReferenceIdeal := hPre_rolled_by_10_ReferenceIdeal)
    ∧ quiescent_ReferenceIdeal_pre_rolled_by_11_ReferenceIdeal (hReferenceIdeal := hReferenceIdeal) (hPre_rolled_by_11_ReferenceIdeal := hPre_rolled_by_11_ReferenceIdeal)
    ∧ quiescent_ReferenceIdeal_pre_rolled_by_12_ReferenceIdeal (hReferenceIdeal := hReferenceIdeal) (hPre_rolled_by_12_ReferenceIdeal := hPre_rolled_by_12_ReferenceIdeal)
    ∧ quiescent_ReferenceIdeal_pre_rolled_by_13_ReferenceIdeal (hReferenceIdeal := hReferenceIdeal) (hPre_rolled_by_13_ReferenceIdeal := hPre_rolled_by_13_ReferenceIdeal)
    ∧ quiescent_ReferenceIdeal_pre_rolled_by_14_ReferenceIdeal (hReferenceIdeal := hReferenceIdeal) (hPre_rolled_by_14_ReferenceIdeal := hPre_rolled_by_14_ReferenceIdeal)
    ∧ quiescent_ReferenceIdeal_pre_rolled_by_15_ReferenceIdeal (hReferenceIdeal := hReferenceIdeal) (hPre_rolled_by_15_ReferenceIdeal := hPre_rolled_by_15_ReferenceIdeal)
    ∧ preserves_Kernel_KernelIdeal
    ∧ algebraic_KernelIdeal_ReferenceIdeal (hKernelIdeal := hKernelIdeal) (hReferenceIdeal := hReferenceIdeal) (hPre_rolled_by_1_Kernel := hPre_rolled_by_1_Kernel)
    ∧ algebraic_KernelIdeal_ReferenceIdeal_pre_rolled_by_2_Kernel (hKernelIdeal := hKernelIdeal) (hReferenceIdeal := hReferenceIdeal) (hPre_rolled_by_2_Kernel := hPre_rolled_by_2_Kernel)
    ∧ algebraic_KernelIdeal_ReferenceIdeal_pre_rolled_by_3_Kernel (hKernelIdeal := hKernelIdeal) (hReferenceIdeal := hReferenceIdeal) (hPre_rolled_by_3_Kernel := hPre_rolled_by_3_Kernel)
    ∧ algebraic_KernelIdeal_ReferenceIdeal_pre_rolled_by_4_Kernel (hKernelIdeal := hKernelIdeal) (hReferenceIdeal := hReferenceIdeal) (hPre_rolled_by_4_Kernel := hPre_rolled_by_4_Kernel)
    ∧ algebraic_KernelIdeal_ReferenceIdeal_pre_rolled_by_5_Kernel (hKernelIdeal := hKernelIdeal) (hReferenceIdeal := hReferenceIdeal) (hPre_rolled_by_5_Kernel := hPre_rolled_by_5_Kernel)
    ∧ algebraic_KernelIdeal_ReferenceIdeal_pre_rolled_by_6_Kernel (hKernelIdeal := hKernelIdeal) (hReferenceIdeal := hReferenceIdeal) (hPre_rolled_by_6_Kernel := hPre_rolled_by_6_Kernel)
    ∧ algebraic_KernelIdeal_ReferenceIdeal_pre_rolled_by_7_Kernel (hKernelIdeal := hKernelIdeal) (hReferenceIdeal := hReferenceIdeal) (hPre_rolled_by_7_Kernel := hPre_rolled_by_7_Kernel)
    ∧ algebraic_KernelIdeal_ReferenceIdeal_pre_rolled_by_8_Kernel (hKernelIdeal := hKernelIdeal) (hReferenceIdeal := hReferenceIdeal) (hPre_rolled_by_8_Kernel := hPre_rolled_by_8_Kernel)
    ∧ algebraic_KernelIdeal_ReferenceIdeal_pre_rolled_by_9_Kernel (hKernelIdeal := hKernelIdeal) (hReferenceIdeal := hReferenceIdeal) (hPre_rolled_by_9_Kernel := hPre_rolled_by_9_Kernel)
    ∧ algebraic_KernelIdeal_ReferenceIdeal_pre_rolled_by_10_Kernel (hKernelIdeal := hKernelIdeal) (hReferenceIdeal := hReferenceIdeal) (hPre_rolled_by_10_Kernel := hPre_rolled_by_10_Kernel)
    ∧ algebraic_KernelIdeal_ReferenceIdeal_pre_rolled_by_11_Kernel (hKernelIdeal := hKernelIdeal) (hReferenceIdeal := hReferenceIdeal) (hPre_rolled_by_11_Kernel := hPre_rolled_by_11_Kernel)
    ∧ algebraic_KernelIdeal_ReferenceIdeal_pre_rolled_by_12_Kernel (hKernelIdeal := hKernelIdeal) (hReferenceIdeal := hReferenceIdeal) (hPre_rolled_by_12_Kernel := hPre_rolled_by_12_Kernel)
    ∧ algebraic_KernelIdeal_ReferenceIdeal_pre_rolled_by_13_Kernel (hKernelIdeal := hKernelIdeal) (hReferenceIdeal := hReferenceIdeal) (hPre_rolled_by_13_Kernel := hPre_rolled_by_13_Kernel)
    ∧ algebraic_KernelIdeal_ReferenceIdeal_pre_rolled_by_14_Kernel (hKernelIdeal := hKernelIdeal) (hReferenceIdeal := hReferenceIdeal) (hPre_rolled_by_14_Kernel := hPre_rolled_by_14_Kernel)
    ∧ algebraic_KernelIdeal_ReferenceIdeal_pre_rolled_by_15_Kernel (hKernelIdeal := hKernelIdeal) (hReferenceIdeal := hReferenceIdeal) (hPre_rolled_by_15_Kernel := hPre_rolled_by_15_Kernel)
-- ==== Pre_rolled_by_10_Kernel.lean ====
abbrev S1x256x256 : Shape := ⟨3, ![1, 256, 256]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S1x256x256 .f32) (main_arg1 : IVec S16 32) : IVec S_ 1 :=
  let main_v0 : IVec S16 32 := iotaInDim S16 32 0
  let main_c : IVec S_ 32 := constantI S_ 32 6#32
  let main_v1 : IVec S16 32 := broadcastInDim S16 ![] bcast_S_S16 main_c
  let main_v2 : IVec S16 32 := addi main_v0 main_v1
  let main_c_0 : IVec S_ 32 := constantI S_ 32 16#32
  let main_v3 : IVec S16 32 := broadcastInDim S16 ![] bcast_S_S16 main_c_0
  let main_v4 : IVec S16 32 := Host.remsi main_v2 main_v3
  let main_v5 : IVec S16 1 := cmpi .eq main_arg1 main_v4
  let main_c_1 : IVec S_ 1 := constantI S_ 1 1#1
  let main_v6 : IVec S_ 1 := (fun x v => Host.reduce IntOp.andi x v reducesTo_S16_S_d0 h_S_) main_v5 main_c_1
  main_v6
-- ==== Pre_rolled_by_10_ReferenceIdeal.lean ====
abbrev S16x256x256 : Shape := ⟨3, ![16, 256, 256]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S16x256x256 .f32) (main_arg1 : IVec S16 32) : IVec S_ 1 :=
  let main_v0 : IVec S16 32 := iotaInDim S16 32 0
  let main_c : IVec S_ 32 := constantI S_ 32 6#32
  let main_v1 : IVec S16 32 := broadcastInDim S16 ![] bcast_S_S16 main_c
  let main_v2 : IVec S16 32 := addi main_v0 main_v1
  let main_c_0 : IVec S_ 32 := constantI S_ 32 16#32
  let main_v3 : IVec S16 32 := broadcastInDim S16 ![] bcast_S_S16 main_c_0
  let main_v4 : IVec S16 32 := Host.remsi main_v2 main_v3
  let main_v5 : IVec S16 1 := cmpi .eq main_arg1 main_v4
  let main_c_1 : IVec S_ 1 := constantI S_ 1 1#1
  let main_v6 : IVec S_ 1 := (fun x v => Host.reduce IntOp.andi x v reducesTo_S16_S_d0 h_S_) main_v5 main_c_1
  main_v6
-- ==== Pre_rolled_by_11_Kernel.lean ====
abbrev S1x256x256 : Shape := ⟨3, ![1, 256, 256]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S1x256x256 .f32) (main_arg1 : IVec S16 32) : IVec S_ 1 :=
  let main_v0 : IVec S16 32 := iotaInDim S16 32 0
  let main_c : IVec S_ 32 := constantI S_ 32 5#32
  let main_v1 : IVec S16 32 := broadcastInDim S16 ![] bcast_S_S16 main_c
  let main_v2 : IVec S16 32 := addi main_v0 main_v1
  let main_c_0 : IVec S_ 32 := constantI S_ 32 16#32
  let main_v3 : IVec S16 32 := broadcastInDim S16 ![] bcast_S_S16 main_c_0
  let main_v4 : IVec S16 32 := Host.remsi main_v2 main_v3
  let main_v5 : IVec S16 1 := cmpi .eq main_arg1 main_v4
  let main_c_1 : IVec S_ 1 := constantI S_ 1 1#1
  let main_v6 : IVec S_ 1 := (fun x v => Host.reduce IntOp.andi x v reducesTo_S16_S_d0 h_S_) main_v5 main_c_1
  main_v6
-- ==== Pre_rolled_by_11_ReferenceIdeal.lean ====
abbrev S16x256x256 : Shape := ⟨3, ![16, 256, 256]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S16x256x256 .f32) (main_arg1 : IVec S16 32) : IVec S_ 1 :=
  let main_v0 : IVec S16 32 := iotaInDim S16 32 0
  let main_c : IVec S_ 32 := constantI S_ 32 5#32
  let main_v1 : IVec S16 32 := broadcastInDim S16 ![] bcast_S_S16 main_c
  let main_v2 : IVec S16 32 := addi main_v0 main_v1
  let main_c_0 : IVec S_ 32 := constantI S_ 32 16#32
  let main_v3 : IVec S16 32 := broadcastInDim S16 ![] bcast_S_S16 main_c_0
  let main_v4 : IVec S16 32 := Host.remsi main_v2 main_v3
  let main_v5 : IVec S16 1 := cmpi .eq main_arg1 main_v4
  let main_c_1 : IVec S_ 1 := constantI S_ 1 1#1
  let main_v6 : IVec S_ 1 := (fun x v => Host.reduce IntOp.andi x v reducesTo_S16_S_d0 h_S_) main_v5 main_c_1
  main_v6
-- ==== Pre_rolled_by_12_Kernel.lean ====
abbrev S1x256x256 : Shape := ⟨3, ![1, 256, 256]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S1x256x256 .f32) (main_arg1 : IVec S16 32) : IVec S_ 1 :=
  let main_v0 : IVec S16 32 := iotaInDim S16 32 0
  let main_c : IVec S_ 32 := constantI S_ 32 4#32
  let main_v1 : IVec S16 32 := broadcastInDim S16 ![] bcast_S_S16 main_c
  let main_v2 : IVec S16 32 := addi main_v0 main_v1
  let main_c_0 : IVec S_ 32 := constantI S_ 32 16#32
  let main_v3 : IVec S16 32 := broadcastInDim S16 ![] bcast_S_S16 main_c_0
  let main_v4 : IVec S16 32 := Host.remsi main_v2 main_v3
  let main_v5 : IVec S16 1 := cmpi .eq main_arg1 main_v4
  let main_c_1 : IVec S_ 1 := constantI S_ 1 1#1
  let main_v6 : IVec S_ 1 := (fun x v => Host.reduce IntOp.andi x v reducesTo_S16_S_d0 h_S_) main_v5 main_c_1
  main_v6
-- ==== Pre_rolled_by_12_ReferenceIdeal.lean ====
abbrev S16x256x256 : Shape := ⟨3, ![16, 256, 256]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S16x256x256 .f32) (main_arg1 : IVec S16 32) : IVec S_ 1 :=
  let main_v0 : IVec S16 32 := iotaInDim S16 32 0
  let main_c : IVec S_ 32 := constantI S_ 32 4#32
  let main_v1 : IVec S16 32 := broadcastInDim S16 ![] bcast_S_S16 main_c
  let main_v2 : IVec S16 32 := addi main_v0 main_v1
  let main_c_0 : IVec S_ 32 := constantI S_ 32 16#32
  let main_v3 : IVec S16 32 := broadcastInDim S16 ![] bcast_S_S16 main_c_0
  let main_v4 : IVec S16 32 := Host.remsi main_v2 main_v3
  let main_v5 : IVec S16 1 := cmpi .eq main_arg1 main_v4
  let main_c_1 : IVec S_ 1 := constantI S_ 1 1#1
  let main_v6 : IVec S_ 1 := (fun x v => Host.reduce IntOp.andi x v reducesTo_S16_S_d0 h_S_) main_v5 main_c_1
  main_v6
-- ==== Pre_rolled_by_13_Kernel.lean ====
abbrev S1x256x256 : Shape := ⟨3, ![1, 256, 256]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S1x256x256 .f32) (main_arg1 : IVec S16 32) : IVec S_ 1 :=
  let main_v0 : IVec S16 32 := iotaInDim S16 32 0
  let main_c : IVec S_ 32 := constantI S_ 32 3#32
  let main_v1 : IVec S16 32 := broadcastInDim S16 ![] bcast_S_S16 main_c
  let main_v2 : IVec S16 32 := addi main_v0 main_v1
  let main_c_0 : IVec S_ 32 := constantI S_ 32 16#32
  let main_v3 : IVec S16 32 := broadcastInDim S16 ![] bcast_S_S16 main_c_0
  let main_v4 : IVec S16 32 := Host.remsi main_v2 main_v3
  let main_v5 : IVec S16 1 := cmpi .eq main_arg1 main_v4
  let main_c_1 : IVec S_ 1 := constantI S_ 1 1#1
  let main_v6 : IVec S_ 1 := (fun x v => Host.reduce IntOp.andi x v reducesTo_S16_S_d0 h_S_) main_v5 main_c_1
  main_v6
-- ==== Pre_rolled_by_13_ReferenceIdeal.lean ====
abbrev S16x256x256 : Shape := ⟨3, ![16, 256, 256]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S16x256x256 .f32) (main_arg1 : IVec S16 32) : IVec S_ 1 :=
  let main_v0 : IVec S16 32 := iotaInDim S16 32 0
  let main_c : IVec S_ 32 := constantI S_ 32 3#32
  let main_v1 : IVec S16 32 := broadcastInDim S16 ![] bcast_S_S16 main_c
  let main_v2 : IVec S16 32 := addi main_v0 main_v1
  let main_c_0 : IVec S_ 32 := constantI S_ 32 16#32
  let main_v3 : IVec S16 32 := broadcastInDim S16 ![] bcast_S_S16 main_c_0
  let main_v4 : IVec S16 32 := Host.remsi main_v2 main_v3
  let main_v5 : IVec S16 1 := cmpi .eq main_arg1 main_v4
  let main_c_1 : IVec S_ 1 := constantI S_ 1 1#1
  let main_v6 : IVec S_ 1 := (fun x v => Host.reduce IntOp.andi x v reducesTo_S16_S_d0 h_S_) main_v5 main_c_1
  main_v6
-- ==== Pre_rolled_by_14_Kernel.lean ====
abbrev S1x256x256 : Shape := ⟨3, ![1, 256, 256]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S1x256x256 .f32) (main_arg1 : IVec S16 32) : IVec S_ 1 :=
  let main_v0 : IVec S16 32 := iotaInDim S16 32 0
  let main_c : IVec S_ 32 := constantI S_ 32 2#32
  let main_v1 : IVec S16 32 := broadcastInDim S16 ![] bcast_S_S16 main_c
  let main_v2 : IVec S16 32 := addi main_v0 main_v1
  let main_c_0 : IVec S_ 32 := constantI S_ 32 16#32
  let main_v3 : IVec S16 32 := broadcastInDim S16 ![] bcast_S_S16 main_c_0
  let main_v4 : IVec S16 32 := Host.remsi main_v2 main_v3
  let main_v5 : IVec S16 1 := cmpi .eq main_arg1 main_v4
  let main_c_1 : IVec S_ 1 := constantI S_ 1 1#1
  let main_v6 : IVec S_ 1 := (fun x v => Host.reduce IntOp.andi x v reducesTo_S16_S_d0 h_S_) main_v5 main_c_1
  main_v6
-- ==== Pre_rolled_by_14_ReferenceIdeal.lean ====
abbrev S16x256x256 : Shape := ⟨3, ![16, 256, 256]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S16x256x256 .f32) (main_arg1 : IVec S16 32) : IVec S_ 1 :=
  let main_v0 : IVec S16 32 := iotaInDim S16 32 0
  let main_c : IVec S_ 32 := constantI S_ 32 2#32
  let main_v1 : IVec S16 32 := broadcastInDim S16 ![] bcast_S_S16 main_c
  let main_v2 : IVec S16 32 := addi main_v0 main_v1
  let main_c_0 : IVec S_ 32 := constantI S_ 32 16#32
  let main_v3 : IVec S16 32 := broadcastInDim S16 ![] bcast_S_S16 main_c_0
  let main_v4 : IVec S16 32 := Host.remsi main_v2 main_v3
  let main_v5 : IVec S16 1 := cmpi .eq main_arg1 main_v4
  let main_c_1 : IVec S_ 1 := constantI S_ 1 1#1
  let main_v6 : IVec S_ 1 := (fun x v => Host.reduce IntOp.andi x v reducesTo_S16_S_d0 h_S_) main_v5 main_c_1
  main_v6
-- ==== Pre_rolled_by_15_Kernel.lean ====
abbrev S1x256x256 : Shape := ⟨3, ![1, 256, 256]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S1x256x256 .f32) (main_arg1 : IVec S16 32) : IVec S_ 1 :=
  let main_v0 : IVec S16 32 := iotaInDim S16 32 0
  let main_c : IVec S_ 32 := constantI S_ 32 1#32
  let main_v1 : IVec S16 32 := broadcastInDim S16 ![] bcast_S_S16 main_c
  let main_v2 : IVec S16 32 := addi main_v0 main_v1
  let main_c_0 : IVec S_ 32 := constantI S_ 32 16#32
  let main_v3 : IVec S16 32 := broadcastInDim S16 ![] bcast_S_S16 main_c_0
  let main_v4 : IVec S16 32 := Host.remsi main_v2 main_v3
  let main_v5 : IVec S16 1 := cmpi .eq main_arg1 main_v4
  let main_c_1 : IVec S_ 1 := constantI S_ 1 1#1
  let main_v6 : IVec S_ 1 := (fun x v => Host.reduce IntOp.andi x v reducesTo_S16_S_d0 h_S_) main_v5 main_c_1
  main_v6
-- ==== Pre_rolled_by_15_ReferenceIdeal.lean ====
abbrev S16x256x256 : Shape := ⟨3, ![16, 256, 256]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S16x256x256 .f32) (main_arg1 : IVec S16 32) : IVec S_ 1 :=
  let main_v0 : IVec S16 32 := iotaInDim S16 32 0
  let main_c : IVec S_ 32 := constantI S_ 32 1#32
  let main_v1 : IVec S16 32 := broadcastInDim S16 ![] bcast_S_S16 main_c
  let main_v2 : IVec S16 32 := addi main_v0 main_v1
  let main_c_0 : IVec S_ 32 := constantI S_ 32 16#32
  let main_v3 : IVec S16 32 := broadcastInDim S16 ![] bcast_S_S16 main_c_0
  let main_v4 : IVec S16 32 := Host.remsi main_v2 main_v3
  let main_v5 : IVec S16 1 := cmpi .eq main_arg1 main_v4
  let main_c_1 : IVec S_ 1 := constantI S_ 1 1#1
  let main_v6 : IVec S_ 1 := (fun x v => Host.reduce IntOp.andi x v reducesTo_S16_S_d0 h_S_) main_v5 main_c_1
  main_v6
-- ==== Pre_rolled_by_1_Kernel.lean ====
abbrev S1x256x256 : Shape := ⟨3, ![1, 256, 256]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S1x256x256 .f32) (main_arg1 : IVec S16 32) : IVec S_ 1 :=
  let main_v0 : IVec S16 32 := iotaInDim S16 32 0
  let main_c : IVec S_ 32 := constantI S_ 32 15#32
  let main_v1 : IVec S16 32 := broadcastInDim S16 ![] bcast_S_S16 main_c
  let main_v2 : IVec S16 32 := addi main_v0 main_v1
  let main_c_0 : IVec S_ 32 := constantI S_ 32 16#32
  let main_v3 : IVec S16 32 := broadcastInDim S16 ![] bcast_S_S16 main_c_0
  let main_v4 : IVec S16 32 := Host.remsi main_v2 main_v3
  let main_v5 : IVec S16 1 := cmpi .eq main_arg1 main_v4
  let main_c_1 : IVec S_ 1 := constantI S_ 1 1#1
  let main_v6 : IVec S_ 1 := (fun x v => Host.reduce IntOp.andi x v reducesTo_S16_S_d0 h_S_) main_v5 main_c_1
  main_v6
-- ==== Pre_rolled_by_1_ReferenceIdeal.lean ====
abbrev S16x256x256 : Shape := ⟨3, ![16, 256, 256]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S16x256x256 .f32) (main_arg1 : IVec S16 32) : IVec S_ 1 :=
  let main_v0 : IVec S16 32 := iotaInDim S16 32 0
  let main_c : IVec S_ 32 := constantI S_ 32 15#32
  let main_v1 : IVec S16 32 := broadcastInDim S16 ![] bcast_S_S16 main_c
  let main_v2 : IVec S16 32 := addi main_v0 main_v1
  let main_c_0 : IVec S_ 32 := constantI S_ 32 16#32
  let main_v3 : IVec S16 32 := broadcastInDim S16 ![] bcast_S_S16 main_c_0
  let main_v4 : IVec S16 32 := Host.remsi main_v2 main_v3
  let main_v5 : IVec S16 1 := cmpi .eq main_arg1 main_v4
  let main_c_1 : IVec S_ 1 := constantI S_ 1 1#1
  let main_v6 : IVec S_ 1 := (fun x v => Host.reduce IntOp.andi x v reducesTo_S16_S_d0 h_S_) main_v5 main_c_1
  main_v6
-- ==== Pre_rolled_by_2_Kernel.lean ====
abbrev S1x256x256 : Shape := ⟨3, ![1, 256, 256]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S1x256x256 .f32) (main_arg1 : IVec S16 32) : IVec S_ 1 :=
  let main_v0 : IVec S16 32 := iotaInDim S16 32 0
  let main_c : IVec S_ 32 := constantI S_ 32 14#32
  let main_v1 : IVec S16 32 := broadcastInDim S16 ![] bcast_S_S16 main_c
  let main_v2 : IVec S16 32 := addi main_v0 main_v1
  let main_c_0 : IVec S_ 32 := constantI S_ 32 16#32
  let main_v3 : IVec S16 32 := broadcastInDim S16 ![] bcast_S_S16 main_c_0
  let main_v4 : IVec S16 32 := Host.remsi main_v2 main_v3
  let main_v5 : IVec S16 1 := cmpi .eq main_arg1 main_v4
  let main_c_1 : IVec S_ 1 := constantI S_ 1 1#1
  let main_v6 : IVec S_ 1 := (fun x v => Host.reduce IntOp.andi x v reducesTo_S16_S_d0 h_S_) main_v5 main_c_1
  main_v6
-- ==== Pre_rolled_by_2_ReferenceIdeal.lean ====
abbrev S16x256x256 : Shape := ⟨3, ![16, 256, 256]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S16x256x256 .f32) (main_arg1 : IVec S16 32) : IVec S_ 1 :=
  let main_v0 : IVec S16 32 := iotaInDim S16 32 0
  let main_c : IVec S_ 32 := constantI S_ 32 14#32
  let main_v1 : IVec S16 32 := broadcastInDim S16 ![] bcast_S_S16 main_c
  let main_v2 : IVec S16 32 := addi main_v0 main_v1
  let main_c_0 : IVec S_ 32 := constantI S_ 32 16#32
  let main_v3 : IVec S16 32 := broadcastInDim S16 ![] bcast_S_S16 main_c_0
  let main_v4 : IVec S16 32 := Host.remsi main_v2 main_v3
  let main_v5 : IVec S16 1 := cmpi .eq main_arg1 main_v4
  let main_c_1 : IVec S_ 1 := constantI S_ 1 1#1
  let main_v6 : IVec S_ 1 := (fun x v => Host.reduce IntOp.andi x v reducesTo_S16_S_d0 h_S_) main_v5 main_c_1
  main_v6
-- ==== Pre_rolled_by_3_Kernel.lean ====
abbrev S1x256x256 : Shape := ⟨3, ![1, 256, 256]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S1x256x256 .f32) (main_arg1 : IVec S16 32) : IVec S_ 1 :=
  let main_v0 : IVec S16 32 := iotaInDim S16 32 0
  let main_c : IVec S_ 32 := constantI S_ 32 13#32
  let main_v1 : IVec S16 32 := broadcastInDim S16 ![] bcast_S_S16 main_c
  let main_v2 : IVec S16 32 := addi main_v0 main_v1
  let main_c_0 : IVec S_ 32 := constantI S_ 32 16#32
  let main_v3 : IVec S16 32 := broadcastInDim S16 ![] bcast_S_S16 main_c_0
  let main_v4 : IVec S16 32 := Host.remsi main_v2 main_v3
  let main_v5 : IVec S16 1 := cmpi .eq main_arg1 main_v4
  let main_c_1 : IVec S_ 1 := constantI S_ 1 1#1
  let main_v6 : IVec S_ 1 := (fun x v => Host.reduce IntOp.andi x v reducesTo_S16_S_d0 h_S_) main_v5 main_c_1
  main_v6
-- ==== Pre_rolled_by_3_ReferenceIdeal.lean ====
abbrev S16x256x256 : Shape := ⟨3, ![16, 256, 256]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S16x256x256 .f32) (main_arg1 : IVec S16 32) : IVec S_ 1 :=
  let main_v0 : IVec S16 32 := iotaInDim S16 32 0
  let main_c : IVec S_ 32 := constantI S_ 32 13#32
  let main_v1 : IVec S16 32 := broadcastInDim S16 ![] bcast_S_S16 main_c
  let main_v2 : IVec S16 32 := addi main_v0 main_v1
  let main_c_0 : IVec S_ 32 := constantI S_ 32 16#32
  let main_v3 : IVec S16 32 := broadcastInDim S16 ![] bcast_S_S16 main_c_0
  let main_v4 : IVec S16 32 := Host.remsi main_v2 main_v3
  let main_v5 : IVec S16 1 := cmpi .eq main_arg1 main_v4
  let main_c_1 : IVec S_ 1 := constantI S_ 1 1#1
  let main_v6 : IVec S_ 1 := (fun x v => Host.reduce IntOp.andi x v reducesTo_S16_S_d0 h_S_) main_v5 main_c_1
  main_v6
-- ==== Pre_rolled_by_4_Kernel.lean ====
abbrev S1x256x256 : Shape := ⟨3, ![1, 256, 256]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S1x256x256 .f32) (main_arg1 : IVec S16 32) : IVec S_ 1 :=
  let main_v0 : IVec S16 32 := iotaInDim S16 32 0
  let main_c : IVec S_ 32 := constantI S_ 32 12#32
  let main_v1 : IVec S16 32 := broadcastInDim S16 ![] bcast_S_S16 main_c
  let main_v2 : IVec S16 32 := addi main_v0 main_v1
  let main_c_0 : IVec S_ 32 := constantI S_ 32 16#32
  let main_v3 : IVec S16 32 := broadcastInDim S16 ![] bcast_S_S16 main_c_0
  let main_v4 : IVec S16 32 := Host.remsi main_v2 main_v3
  let main_v5 : IVec S16 1 := cmpi .eq main_arg1 main_v4
  let main_c_1 : IVec S_ 1 := constantI S_ 1 1#1
  let main_v6 : IVec S_ 1 := (fun x v => Host.reduce IntOp.andi x v reducesTo_S16_S_d0 h_S_) main_v5 main_c_1
  main_v6
-- ==== Pre_rolled_by_4_ReferenceIdeal.lean ====
abbrev S16x256x256 : Shape := ⟨3, ![16, 256, 256]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S16x256x256 .f32) (main_arg1 : IVec S16 32) : IVec S_ 1 :=
  let main_v0 : IVec S16 32 := iotaInDim S16 32 0
  let main_c : IVec S_ 32 := constantI S_ 32 12#32
  let main_v1 : IVec S16 32 := broadcastInDim S16 ![] bcast_S_S16 main_c
  let main_v2 : IVec S16 32 := addi main_v0 main_v1
  let main_c_0 : IVec S_ 32 := constantI S_ 32 16#32
  let main_v3 : IVec S16 32 := broadcastInDim S16 ![] bcast_S_S16 main_c_0
  let main_v4 : IVec S16 32 := Host.remsi main_v2 main_v3
  let main_v5 : IVec S16 1 := cmpi .eq main_arg1 main_v4
  let main_c_1 : IVec S_ 1 := constantI S_ 1 1#1
  let main_v6 : IVec S_ 1 := (fun x v => Host.reduce IntOp.andi x v reducesTo_S16_S_d0 h_S_) main_v5 main_c_1
  main_v6
-- ==== Pre_rolled_by_5_Kernel.lean ====
abbrev S1x256x256 : Shape := ⟨3, ![1, 256, 256]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S1x256x256 .f32) (main_arg1 : IVec S16 32) : IVec S_ 1 :=
  let main_v0 : IVec S16 32 := iotaInDim S16 32 0
  let main_c : IVec S_ 32 := constantI S_ 32 11#32
  let main_v1 : IVec S16 32 := broadcastInDim S16 ![] bcast_S_S16 main_c
  let main_v2 : IVec S16 32 := addi main_v0 main_v1
  let main_c_0 : IVec S_ 32 := constantI S_ 32 16#32
  let main_v3 : IVec S16 32 := broadcastInDim S16 ![] bcast_S_S16 main_c_0
  let main_v4 : IVec S16 32 := Host.remsi main_v2 main_v3
  let main_v5 : IVec S16 1 := cmpi .eq main_arg1 main_v4
  let main_c_1 : IVec S_ 1 := constantI S_ 1 1#1
  let main_v6 : IVec S_ 1 := (fun x v => Host.reduce IntOp.andi x v reducesTo_S16_S_d0 h_S_) main_v5 main_c_1
  main_v6
-- ==== Pre_rolled_by_5_ReferenceIdeal.lean ====
abbrev S16x256x256 : Shape := ⟨3, ![16, 256, 256]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S16x256x256 .f32) (main_arg1 : IVec S16 32) : IVec S_ 1 :=
  let main_v0 : IVec S16 32 := iotaInDim S16 32 0
  let main_c : IVec S_ 32 := constantI S_ 32 11#32
  let main_v1 : IVec S16 32 := broadcastInDim S16 ![] bcast_S_S16 main_c
  let main_v2 : IVec S16 32 := addi main_v0 main_v1
  let main_c_0 : IVec S_ 32 := constantI S_ 32 16#32
  let main_v3 : IVec S16 32 := broadcastInDim S16 ![] bcast_S_S16 main_c_0
  let main_v4 : IVec S16 32 := Host.remsi main_v2 main_v3
  let main_v5 : IVec S16 1 := cmpi .eq main_arg1 main_v4
  let main_c_1 : IVec S_ 1 := constantI S_ 1 1#1
  let main_v6 : IVec S_ 1 := (fun x v => Host.reduce IntOp.andi x v reducesTo_S16_S_d0 h_S_) main_v5 main_c_1
  main_v6
-- ==== Pre_rolled_by_6_Kernel.lean ====
abbrev S1x256x256 : Shape := ⟨3, ![1, 256, 256]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S1x256x256 .f32) (main_arg1 : IVec S16 32) : IVec S_ 1 :=
  let main_v0 : IVec S16 32 := iotaInDim S16 32 0
  let main_c : IVec S_ 32 := constantI S_ 32 10#32
  let main_v1 : IVec S16 32 := broadcastInDim S16 ![] bcast_S_S16 main_c
  let main_v2 : IVec S16 32 := addi main_v0 main_v1
  let main_c_0 : IVec S_ 32 := constantI S_ 32 16#32
  let main_v3 : IVec S16 32 := broadcastInDim S16 ![] bcast_S_S16 main_c_0
  let main_v4 : IVec S16 32 := Host.remsi main_v2 main_v3
  let main_v5 : IVec S16 1 := cmpi .eq main_arg1 main_v4
  let main_c_1 : IVec S_ 1 := constantI S_ 1 1#1
  let main_v6 : IVec S_ 1 := (fun x v => Host.reduce IntOp.andi x v reducesTo_S16_S_d0 h_S_) main_v5 main_c_1
  main_v6
-- ==== Pre_rolled_by_6_ReferenceIdeal.lean ====
abbrev S16x256x256 : Shape := ⟨3, ![16, 256, 256]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S16x256x256 .f32) (main_arg1 : IVec S16 32) : IVec S_ 1 :=
  let main_v0 : IVec S16 32 := iotaInDim S16 32 0
  let main_c : IVec S_ 32 := constantI S_ 32 10#32
  let main_v1 : IVec S16 32 := broadcastInDim S16 ![] bcast_S_S16 main_c
  let main_v2 : IVec S16 32 := addi main_v0 main_v1
  let main_c_0 : IVec S_ 32 := constantI S_ 32 16#32
  let main_v3 : IVec S16 32 := broadcastInDim S16 ![] bcast_S_S16 main_c_0
  let main_v4 : IVec S16 32 := Host.remsi main_v2 main_v3
  let main_v5 : IVec S16 1 := cmpi .eq main_arg1 main_v4
  let main_c_1 : IVec S_ 1 := constantI S_ 1 1#1
  let main_v6 : IVec S_ 1 := (fun x v => Host.reduce IntOp.andi x v reducesTo_S16_S_d0 h_S_) main_v5 main_c_1
  main_v6
-- ==== Pre_rolled_by_7_Kernel.lean ====
abbrev S1x256x256 : Shape := ⟨3, ![1, 256, 256]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S1x256x256 .f32) (main_arg1 : IVec S16 32) : IVec S_ 1 :=
  let main_v0 : IVec S16 32 := iotaInDim S16 32 0
  let main_c : IVec S_ 32 := constantI S_ 32 9#32
  let main_v1 : IVec S16 32 := broadcastInDim S16 ![] bcast_S_S16 main_c
  let main_v2 : IVec S16 32 := addi main_v0 main_v1
  let main_c_0 : IVec S_ 32 := constantI S_ 32 16#32
  let main_v3 : IVec S16 32 := broadcastInDim S16 ![] bcast_S_S16 main_c_0
  let main_v4 : IVec S16 32 := Host.remsi main_v2 main_v3
  let main_v5 : IVec S16 1 := cmpi .eq main_arg1 main_v4
  let main_c_1 : IVec S_ 1 := constantI S_ 1 1#1
  let main_v6 : IVec S_ 1 := (fun x v => Host.reduce IntOp.andi x v reducesTo_S16_S_d0 h_S_) main_v5 main_c_1
  main_v6
-- ==== Pre_rolled_by_7_ReferenceIdeal.lean ====
abbrev S16x256x256 : Shape := ⟨3, ![16, 256, 256]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S16x256x256 .f32) (main_arg1 : IVec S16 32) : IVec S_ 1 :=
  let main_v0 : IVec S16 32 := iotaInDim S16 32 0
  let main_c : IVec S_ 32 := constantI S_ 32 9#32
  let main_v1 : IVec S16 32 := broadcastInDim S16 ![] bcast_S_S16 main_c
  let main_v2 : IVec S16 32 := addi main_v0 main_v1
  let main_c_0 : IVec S_ 32 := constantI S_ 32 16#32
  let main_v3 : IVec S16 32 := broadcastInDim S16 ![] bcast_S_S16 main_c_0
  let main_v4 : IVec S16 32 := Host.remsi main_v2 main_v3
  let main_v5 : IVec S16 1 := cmpi .eq main_arg1 main_v4
  let main_c_1 : IVec S_ 1 := constantI S_ 1 1#1
  let main_v6 : IVec S_ 1 := (fun x v => Host.reduce IntOp.andi x v reducesTo_S16_S_d0 h_S_) main_v5 main_c_1
  main_v6
-- ==== Pre_rolled_by_8_Kernel.lean ====
abbrev S1x256x256 : Shape := ⟨3, ![1, 256, 256]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S1x256x256 .f32) (main_arg1 : IVec S16 32) : IVec S_ 1 :=
  let main_v0 : IVec S16 32 := iotaInDim S16 32 0
  let main_c : IVec S_ 32 := constantI S_ 32 8#32
  let main_v1 : IVec S16 32 := broadcastInDim S16 ![] bcast_S_S16 main_c
  let main_v2 : IVec S16 32 := addi main_v0 main_v1
  let main_c_0 : IVec S_ 32 := constantI S_ 32 16#32
  let main_v3 : IVec S16 32 := broadcastInDim S16 ![] bcast_S_S16 main_c_0
  let main_v4 : IVec S16 32 := Host.remsi main_v2 main_v3
  let main_v5 : IVec S16 1 := cmpi .eq main_arg1 main_v4
  let main_c_1 : IVec S_ 1 := constantI S_ 1 1#1
  let main_v6 : IVec S_ 1 := (fun x v => Host.reduce IntOp.andi x v reducesTo_S16_S_d0 h_S_) main_v5 main_c_1
  main_v6
-- ==== Pre_rolled_by_8_ReferenceIdeal.lean ====
abbrev S16x256x256 : Shape := ⟨3, ![16, 256, 256]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S16x256x256 .f32) (main_arg1 : IVec S16 32) : IVec S_ 1 :=
  let main_v0 : IVec S16 32 := iotaInDim S16 32 0
  let main_c : IVec S_ 32 := constantI S_ 32 8#32
  let main_v1 : IVec S16 32 := broadcastInDim S16 ![] bcast_S_S16 main_c
  let main_v2 : IVec S16 32 := addi main_v0 main_v1
  let main_c_0 : IVec S_ 32 := constantI S_ 32 16#32
  let main_v3 : IVec S16 32 := broadcastInDim S16 ![] bcast_S_S16 main_c_0
  let main_v4 : IVec S16 32 := Host.remsi main_v2 main_v3
  let main_v5 : IVec S16 1 := cmpi .eq main_arg1 main_v4
  let main_c_1 : IVec S_ 1 := constantI S_ 1 1#1
  let main_v6 : IVec S_ 1 := (fun x v => Host.reduce IntOp.andi x v reducesTo_S16_S_d0 h_S_) main_v5 main_c_1
  main_v6
-- ==== Pre_rolled_by_9_Kernel.lean ====
abbrev S1x256x256 : Shape := ⟨3, ![1, 256, 256]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S1x256x256 .f32) (main_arg1 : IVec S16 32) : IVec S_ 1 :=
  let main_v0 : IVec S16 32 := iotaInDim S16 32 0
  let main_c : IVec S_ 32 := constantI S_ 32 7#32
  let main_v1 : IVec S16 32 := broadcastInDim S16 ![] bcast_S_S16 main_c
  let main_v2 : IVec S16 32 := addi main_v0 main_v1
  let main_c_0 : IVec S_ 32 := constantI S_ 32 16#32
  let main_v3 : IVec S16 32 := broadcastInDim S16 ![] bcast_S_S16 main_c_0
  let main_v4 : IVec S16 32 := Host.remsi main_v2 main_v3
  let main_v5 : IVec S16 1 := cmpi .eq main_arg1 main_v4
  let main_c_1 : IVec S_ 1 := constantI S_ 1 1#1
  let main_v6 : IVec S_ 1 := (fun x v => Host.reduce IntOp.andi x v reducesTo_S16_S_d0 h_S_) main_v5 main_c_1
  main_v6
-- ==== Pre_rolled_by_9_ReferenceIdeal.lean ====
abbrev S16x256x256 : Shape := ⟨3, ![16, 256, 256]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S16x256x256 .f32) (main_arg1 : IVec S16 32) : IVec S_ 1 :=
  let main_v0 : IVec S16 32 := iotaInDim S16 32 0
  let main_c : IVec S_ 32 := constantI S_ 32 7#32
  let main_v1 : IVec S16 32 := broadcastInDim S16 ![] bcast_S_S16 main_c
  let main_v2 : IVec S16 32 := addi main_v0 main_v1
  let main_c_0 : IVec S_ 32 := constantI S_ 32 16#32
  let main_v3 : IVec S16 32 := broadcastInDim S16 ![] bcast_S_S16 main_c_0
  let main_v4 : IVec S16 32 := Host.remsi main_v2 main_v3
  let main_v5 : IVec S16 1 := cmpi .eq main_arg1 main_v4
  let main_c_1 : IVec S_ 1 := constantI S_ 1 1#1
  let main_v6 : IVec S_ 1 := (fun x v => Host.reduce IntOp.andi x v reducesTo_S16_S_d0 h_S_) main_v5 main_c_1
  main_v6
-- ==== Kernel.lean ====
abbrev S1x256x256 : Shape := ⟨3, ![1, 256, 256]⟩
abbrev S16 : Shape := ⟨1, ![16]⟩
abbrev S_ : Shape := ⟨0, ![]⟩
abbrev S1 : Shape := ⟨1, ![1]⟩

abbrev nBuf : Space → Nat
  | .hbm => 3
  | .vmem => 2
  | .smem => 1
  | _ => 0

abbrev bufTy : (tb : Table) → Fin (tcTables nBuf tb) → BufTy
  | .hbm, ⟨0, _⟩ => ⟨S1x256x256, .f32⟩
  | .hbm, ⟨1, _⟩ => ⟨S16, .i32⟩
  | .hbm, ⟨2, _⟩ => ⟨S1x256x256, .bf16⟩
  | .local _ .vmem, ⟨0, _⟩ => ⟨S1x256x256, .f32⟩
  | .local _ .vmem, ⟨1, _⟩ => ⟨S1x256x256, .bf16⟩
  | .local _ .smem, ⟨0, _⟩ => ⟨S16, .i32⟩
  | _, _ => ⟨S1x256x256, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.smem, 0, rfl⟩
abbrev barrier0 : Sem sig := 0

abbrev nD : Nat := 16
abbrev τ : Topo := Topo.v7x

variable {F : FTy → Type} [FloatOps F]

abbrev grid0 : Pipeline.Grid := .none

def k0_dev1 : Nat :=
  let c0_i32_2 : BitVec 32 := 0#32
  let c0_i32 : BitVec 32 := 0#32
  let c1_i32_1 : BitVec 32 := 1#32
  let v4 : BitVec 32 := Scalar.muli c0_i32 c1_i32_1
  let v5 : BitVec 32 := Scalar.addi c0_i32_2 v4
  v5.toNat
def k0_dev2 : Nat :=
  let c0_i32_6 : BitVec 32 := 0#32
  let c1_i32_4 : BitVec 32 := 1#32
  let c1_i32_5 : BitVec 32 := 1#32
  let v6 : BitVec 32 := Scalar.muli c1_i32_4 c1_i32_5
  let v7 : BitVec 32 := Scalar.addi c0_i32_6 v6
  v7.toNat
def k0_dev3 : Nat :=
  let c0_i32_9 : BitVec 32 := 0#32
  let c2_i32 : BitVec 32 := 2#32
  let c1_i32_8 : BitVec 32 := 1#32
  let v8 : BitVec 32 := Scalar.muli c2_i32 c1_i32_8
  let v9 : BitVec 32 := Scalar.addi c0_i32_9 v8
  v9.toNat
def k0_dev4 : Nat :=
  let c0_i32_12 : BitVec 32 := 0#32
  let c3_i32 : BitVec 32 := 3#32
  let c1_i32_11 : BitVec 32 := 1#32
  let v10 : BitVec 32 := Scalar.muli c3_i32 c1_i32_11
  let v11 : BitVec 32 := Scalar.addi c0_i32_12 v10
  v11.toNat
def k0_dev5 : Nat :=
  let c0_i32_15 : BitVec 32 := 0#32
  let c4_i32 : BitVec 32 := 4#32
  let c1_i32_14 : BitVec 32 := 1#32
  let v12 : BitVec 32 := Scalar.muli c4_i32 c1_i32_14
  let v13 : BitVec 32 := Scalar.addi c0_i32_15 v12
  v13.toNat
def k0_dev6 : Nat :=
  let c0_i32_18 : BitVec 32 := 0#32
  let c5_i32 : BitVec 32 := 5#32
  let c1_i32_17 : BitVec 32 := 1#32
  let v14 : BitVec 32 := Scalar.muli c5_i32 c1_i32_17
  let v15 : BitVec 32 := Scalar.addi c0_i32_18 v14
  v15.toNat
def k0_dev7 : Nat :=
  let c0_i32_21 : BitVec 32 := 0#32
  let c6_i32 : BitVec 32 := 6#32
  let c1_i32_20 : BitVec 32 := 1#32
  let v16 : BitVec 32 := Scalar.muli c6_i32 c1_i32_20
  let v17 : BitVec 32 := Scalar.addi c0_i32_21 v16
  v17.toNat
def k0_dev8 : Nat :=
  let c0_i32_24 : BitVec 32 := 0#32
  let c7_i32 : BitVec 32 := 7#32
  let c1_i32_23 : BitVec 32 := 1#32
  let v18 : BitVec 32 := Scalar.muli c7_i32 c1_i32_23
  let v19 : BitVec 32 := Scalar.addi c0_i32_24 v18
  v19.toNat
def k0_dev9 : Nat :=
  let c0_i32_27 : BitVec 32 := 0#32
  let c8_i32 : BitVec 32 := 8#32
  let c1_i32_26 : BitVec 32 := 1#32
  let v20 : BitVec 32 := Scalar.muli c8_i32 c1_i32_26
  let v21 : BitVec 32 := Scalar.addi c0_i32_27 v20
  v21.toNat
def k0_dev10 : Nat :=
  let c0_i32_30 : BitVec 32 := 0#32
  let c9_i32 : BitVec 32 := 9#32
  let c1_i32_29 : BitVec 32 := 1#32
  let v22 : BitVec 32 := Scalar.muli c9_i32 c1_i32_29
  let v23 : BitVec 32 := Scalar.addi c0_i32_30 v22
  v23.toNat
def k0_dev11 : Nat :=
  let c0_i32_33 : BitVec 32 := 0#32
  let c10_i32 : BitVec 32 := 10#32
  let c1_i32_32 : BitVec 32 := 1#32
  let v24 : BitVec 32 := Scalar.muli c10_i32 c1_i32_32
  let v25 : BitVec 32 := Scalar.addi c0_i32_33 v24
  v25.toNat
def k0_dev12 : Nat :=
  let c0_i32_36 : BitVec 32 := 0#32
  let c11_i32 : BitVec 32 := 11#32
  let c1_i32_35 : BitVec 32 := 1#32
  let v26 : BitVec 32 := Scalar.muli c11_i32 c1_i32_35
  let v27 : BitVec 32 := Scalar.addi c0_i32_36 v26
  v27.toNat
def k0_dev13 : Nat :=
  let c0_i32_39 : BitVec 32 := 0#32
  let c12_i32 : BitVec 32 := 12#32
  let c1_i32_38 : BitVec 32 := 1#32
  let v28 : BitVec 32 := Scalar.muli c12_i32 c1_i32_38
  let v29 : BitVec 32 := Scalar.addi c0_i32_39 v28
  v29.toNat
def k0_dev14 : Nat :=
  let c0_i32_42 : BitVec 32 := 0#32
  let c13_i32 : BitVec 32 := 13#32
  let c1_i32_41 : BitVec 32 := 1#32
  let v30 : BitVec 32 := Scalar.muli c13_i32 c1_i32_41
  let v31 : BitVec 32 := Scalar.addi c0_i32_42 v30
  v31.toNat
def k0_dev15 : Nat :=
  let c0_i32_45 : BitVec 32 := 0#32
  let c14_i32 : BitVec 32 := 14#32
  let c1_i32_44 : BitVec 32 := 1#32
  let v32 : BitVec 32 := Scalar.muli c14_i32 c1_i32_44
  let v33 : BitVec 32 := Scalar.addi c0_i32_45 v32
  v33.toNat
def k0_dev16 : Nat :=
  let c0_i32_48 : BitVec 32 := 0#32
  let c15_i32 : BitVec 32 := 15#32
  let c1_i32_47 : BitVec 32 := 1#32
  let v34 : BitVec 32 := Scalar.muli c15_i32 c1_i32_47
  let v35 : BitVec 32 := Scalar.addi c0_i32_48 v34
  v35.toNat
def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v41 : Index := Scalar.indexCast v2
  ![v41.toNat]
def k0_dev17 (v42 : BitVec 32) : Nat :=
  let c0_i32_56 : BitVec 32 := 0#32
  let c1_i32_55 : BitVec 32 := 1#32
  let v43 : BitVec 32 := Scalar.muli v42 c1_i32_55
  let v44 : BitVec 32 := Scalar.addi c0_i32_56 v43
  v44.toNat

def k0_chk1 (v42 : BitVec 32) : Prop :=
  ((k0_dev17 v42) < nD)
theorem k0_dev17_lt : ∀ (v42 : BitVec 32) (k0_hw1 : k0_chk1 v42), (k0_dev17 v42) < nD := fun v42 k0_hw1 => k0_hw1
-- ==== ReferenceIdeal.lean ====
abbrev S16x256x256 : Shape := ⟨3, ![16, 256, 256]⟩
abbrev S16 : Shape := ⟨1, ![16]⟩
abbrev S_ : Shape := ⟨0, ![]⟩
abbrev S16x1 : Shape := ⟨2, ![16, 1]⟩

abbrev nBuf : Space → Nat
  | .hbm => 15
  | .vmem => 0
  | .smem => 0
  | _ => 0

abbrev bufTy : (tb : Table) → Fin (tcTables nBuf tb) → BufTy
  | .hbm, ⟨0, _⟩ => ⟨S16x256x256, .f32⟩
  | .hbm, ⟨1, _⟩ => ⟨S16, .i32⟩
  | .hbm, ⟨2, _⟩ => ⟨S16, .i32⟩
  | .hbm, ⟨3, _⟩ => ⟨S16, .i32⟩
  | .hbm, ⟨4, _⟩ => ⟨S16, .i32⟩
  | .hbm, ⟨5, _⟩ => ⟨S_, .i32⟩
  | .hbm, ⟨6, _⟩ => ⟨S16, .i32⟩
  | .hbm, ⟨7, _⟩ => ⟨S16, .i1⟩
  | .hbm, ⟨8, _⟩ => ⟨S_, .i32⟩
  | .hbm, ⟨9, _⟩ => ⟨S16, .i32⟩
  | .hbm, ⟨10, _⟩ => ⟨S16, .i32⟩
  | .hbm, ⟨11, _⟩ => ⟨S16, .i32⟩
  | .hbm, ⟨12, _⟩ => ⟨S16x1, .i32⟩
  | .hbm, ⟨13, _⟩ => ⟨S16x256x256, .f32⟩
  | .hbm, ⟨14, _⟩ => ⟨S16x256x256, .bf16⟩
  | _, _ => ⟨S16x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Proof.Protocol.lean ====
/-
# The protocol of the sixteen devices

Device `c` sends its block, rounded to bf16, into the result array of the device that word `c` of its table names.
The words of all sixteen tables are taken to be the values of ONE permutation `σ` of the devices (`Names`): then every
result array has exactly one writer, device `σ⁻¹ d` for the array of device `d`.

Each device has five semaphore cells, each used for one round:

* its barrier cell: sixteen duties of one unit, one per device that signals it. The signal of device `d` to device `p`
  carries the right to write `d`'s result array if `d` is the device that `p` will write (`σ p = d`), and nothing
  otherwise. So after its wait for sixteen, device `p` owns the result array it writes;
* the cells of its two local copies (its block into VMEM, its table into SMEM): one duty, paid by its own copy;
* its send cell: one duty, paid by its own remote copy, handing the send buffer back;
* its receive cell: one duty, paid by the remote copy of `σ⁻¹ c`, handing over `c`'s result array with the block in it.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.PermuteProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the launch library's, and this protocol's with duties named by devices. -/
abbrev UU : Type := UR sig nD τ × URounds (GSem nD τ sig) (Dev nD)

local notation "𝕄" => MT nD τ sig Unit (Elt F) ℕ UU ℕ

abbrev EP : Emb (UR sig nD τ) (MT nD τ sig Unit (Elt F) ℕ UU ℕ) := embL
abbrev ER : Emb (URounds (GSem nD τ sig) (Dev nD)) (MT nD τ sig Unit (Elt F) ℕ UU ℕ) := embR

variable (m : (ℓ : Loc nD τ sig) → Buf (Elt F) ℓ) (σ : Equiv.Perm (Dev nD))

/-! ## The table -/

/-- Word `c` of a table of sixteen words. -/
def wordAt (c : Dev nD) : S16.Idx := fun a => ⟨c.val, by fin_cases a; exact c.isLt⟩

/-- Device `c`'s block of `x` and its copy of the table, as launched. -/
abbrev blockOf (c : Dev nD) : FVec F S1x256x256 .f32 := m ((c : Thread nD τ).loc main_arg0)
abbrev tableOf (c : Dev nD) : IVec S16 32 := m ((c : Thread nD τ).loc main_arg1)

/-- On every device `c`, word `c` of its table is the number of device `σ c`. -/
def Names : Prop := ∀ c : Dev nD, tableOf m c (wordAt c) = BitVec.ofNat 32 (σ c).val

/-- What device `c` sends: its block rounded to bf16. -/
def sentBy (c : Dev nD) : FVec F S1x256x256 .bf16 := k0_pay1 (blockOf m c)

/-! ## The buffers and the cells -/

abbrev xH : Memref sig .tc .hbm S1x256x256 .f32 := Memref.whole main_arg0
abbrev tH : Memref sig .tc .hbm S16 .i32 := Memref.whole main_arg1
abbrev outH : Memref sig .tc .hbm S1x256x256 .bf16 := Memref.whole main_v1
abbrev xV : Memref sig .tc .vmem S1x256x256 .f32 := Memref.whole cc0_scratch0
abbrev sendV : Memref sig .tc .vmem S1x256x256 .bf16 := Memref.whole cc0_scratch1
abbrev tS : Memref sig .tc .smem S16 .i32 := Memref.whole cc0_scratch2

/-- The barrier semaphore, and the four DMA semaphores of the kernel. -/
abbrev barS : Sem sig := (SemArray.scalar (sig.barrier 0 rfl) : Sems sig S_).sem
abbrev loadS : DmaSem sig := cc0_scratch3.sem
abbrev tableS : DmaSem sig := cc0_scratch4.sem
abbrev sendS : DmaSem sig := cc0_scratch5.sem
abbrev recvS : DmaSem sig := cc0_scratch6.sem

/-- A device's five semaphores by number. -/
abbrev csem : Fin 5 → SemLoc sig := fun
  | 0 => .reg barS | 1 => .dma loadS | 2 => .dma tableS | 3 => .dma sendS | 4 => .dma recvS
/-- The cell of device `c` at its semaphore `k`. -/
abbrev cell (c : Dev nD) (k : Fin 5) : GSem nD τ sig := ((c : Thread nD τ), csem k)

/-- Which of the five a semaphore is. -/
def kindOf (s : SemLoc sig) : Option (Fin 5) := (List.finRange 5).find? fun k => csem k = s
theorem kindOf_csem (k : Fin 5) : kindOf (csem k) = some k := by revert k; decide
theorem csem_injective : Function.Injective csem := fun a b h =>
  Option.some.inj (by rw [← kindOf_csem a, ← kindOf_csem b, h])
theorem cell_inj {c c' : Dev nD} {k k' : Fin 5} (h : cell c k = cell c' k') : c = c' ∧ k = k' :=
  ⟨congrArg (fun g : GSem nD τ sig => g.1.1) h, csem_injective (congrArg Prod.snd h)⟩

/-- The units of the local copies and of the remote copy. -/
abbrev NX : ℕ := xV.view.dmaCredit
abbrev NT : ℕ := tS.view.dmaCredit
abbrev N : ℕ := outH.view.dmaCredit
/-- The send buffer's credit is the result's: both are one block of bf16. -/
theorem sendV_credit : sendV.view.dmaCredit = N := rfl

/-! ## The schedule -/

/-- Device `c`'s whole buffer `b` at contents `f`. -/
abbrev held (c : Dev nD) (b : Ref sig .tc) (f : Buf (Elt F) ((c : Thread nD τ).loc b)) : sProp 𝕄 :=
  ((c : Thread nD τ).loc b) ↦{fullShare} f

/-- Device `c`'s result array, at whatever contents. -/
def lent (c : Dev nD) : sProp 𝕄 := iprop(∃ f, held c main_v1 f)

/-- What device `d`'s signal hands to device `p`: its own result array if `p` is the device that writes it. -/
def barPay (p d : Dev nD) : sProp 𝕄 := if σ p = d then lent d else iprop(emp)

/-- The duties at each of the five semaphores: sixteen, or one. -/
def dutiesOf : Fin 5 → Finset (Dev nD) := fun | 0 => Finset.univ | _ => {0}
/-- The units of one duty. -/
def unitsOf : Fin 5 → ℕ := fun | 0 => 1 | 1 => NX | 2 => NT | _ => N
/-- What the duty of `d` hands to device `c`. -/
def payOf (k : Fin 5) (c d : Dev nD) : sProp 𝕄 := match k with
  | 0 => barPay σ c d
  | 1 => iprop(held c cc0_scratch0 (blockOf m c) ∗ held c main_arg0 (blockOf m c))
  | 2 => iprop(held c cc0_scratch2 (tableOf m c) ∗ held c main_arg1 (tableOf m c))
  | 3 => held c cc0_scratch1 (sentBy m c)
  | 4 => held c main_v1 (sentBy m (σ.symm c))

theorem unitsOf_pos (k : Fin 5) : 0 < unitsOf k := by
  fin_cases k
  · exact Nat.one_pos
  all_goals exact View.dmaCredit_pos _ (by decide)

/-- One round on every cell. -/
def sched : Rounds.Schedule (GSem nD τ sig) (Dev nD) 𝕄 where
  duties g r := if r = 0 ∧ g.1.2 = .tc then (kindOf g.2).elim ∅ dutiesOf else ∅
  amount g _ _ := (kindOf g.2).elim 1 unitsOf
  payload g _ d := (kindOf g.2).elim iprop(emp) fun k => payOf m σ k g.1.1 d
  amount_pos g _ _ _ := by
    cases h : kindOf g.2 with
    | none => exact Nat.one_pos
    | some k => exact unitsOf_pos k

omit [FloatOps F] in
instance lent_storable (c : Dev nD) : BI.Storable (upEmb : UEmb _ 𝕄) (lent (F := F) c) := by unfold lent; infer_instance
omit [FloatOps F] in
instance barPay_storable (p d : Dev nD) : BI.Storable (upEmb : UEmb _ 𝕄) (barPay (F := F) σ p d) := by
  unfold barPay; split <;> infer_instance
instance payOf_storable (k : Fin 5) (c d : Dev nD) : BI.Storable (upEmb : UEmb _ 𝕄) (payOf m σ k c d) := by
  unfold payOf; split <;> infer_instance
instance sched_payload_storable (g : GSem nD τ sig) (r : ℕ) (d : Dev nD) :
    BI.Storable (upEmb : UEmb _ 𝕄) ((sched m σ).payload g r d) := by
  show BI.Storable upEmb ((kindOf g.2).elim iprop(emp) fun k => payOf m σ k g.1.1 d)
  cases kindOf g.2 <;> (dsimp only [Option.elim]; infer_instance)

section Sched
variable (c : Dev nD) (k : Fin 5) (d : Dev nD)

theorem duties_cell : (sched m σ).duties (cell c k) 0 = dutiesOf k := by
  dsimp only [sched]; rw [if_pos ⟨rfl, rfl⟩, kindOf_csem]; rfl
theorem amount_cell (r : ℕ) : (sched m σ).amount (cell c k) r d = unitsOf k := by
  dsimp only [sched]; rw [kindOf_csem]; rfl
theorem payload_cell (r : ℕ) : (sched m σ).payload (cell c k) r d = payOf m σ k c d := by
  dsimp only [sched]; rw [kindOf_csem]; rfl
theorem duties_later (g : GSem nD τ sig) : ∀ r, 1 ≤ r → (sched m σ).duties g r = ∅ :=
  fun r hr => by dsimp only [sched]; exact if_neg fun h => by omega
theorem expect_cell : (sched m σ).expect (cell c k) 0 = (dutiesOf k).card * unitsOf k := by
  unfold Schedule.expect Schedule.amountOf
  rw [duties_cell, Finset.sum_congr rfl fun d _ => amount_cell m σ c k d 0, Finset.sum_const, smul_eq_mul]
/-- What the waiter of a cell is handed: every duty's payload. -/
theorem rest_cell : bigSep ((sched m σ).duties (cell c k) 0 \ ∅) (fun d => (sched m σ).payload (cell c k) 0 d)
    = bigSep (dutiesOf k) (payOf m σ k c) := by
  rw [Finset.sdiff_empty, duties_cell]
  exact bigSep_congr fun d _ => payload_cell m σ c k d 0
end Sched

omit [FloatOps F] in
/-- A family that is empty but at one index is its member there. -/
theorem bigSep_only {I : Type} [Fintype I] [DecidableEq I] (i : I) (Φ : I → sProp 𝕄) (h : ∀ j, j ≠ i → Φ j = iprop(emp)) :
    bigSep Finset.univ Φ = Φ i := by
  have he : bigSep (Finset.univ.erase i) Φ = iprop(emp) :=
    (bigSep_congr fun j hj => h j (Finset.ne_of_mem_erase hj)).trans (bigSep_emp_const _)
  rw [bigSep_univ_at Φ i, he]
  exact equiv_iff.mp sep_emp

omit [FloatOps F] in
/-- The sixteen signals that device `p` waits for hand it one thing: the result array of device `σ p`. -/
theorem barPay_got (p : Dev nD) : bigSep Finset.univ (fun d => barPay (F := F) σ p d) = lent (σ p) := by
  exact (bigSep_only (σ p) _ fun j hj => if_neg (Ne.symm hj)).trans (if_pos rfl)
omit [FloatOps F] in
/-- The sixteen signals that device `d` sends hand out one thing: its result array. -/
theorem barPay_given (d : Dev nD) : bigSep Finset.univ (fun p => barPay (F := F) σ p d) = lent d := by
  exact (bigSep_only (σ.symm d) _ fun j hj => if_neg fun h => hj (by rw [← h, Equiv.symm_apply_apply])).trans
    (if_pos (Equiv.apply_symm_apply σ d))

/-! ## What each device owes at launch; the levels -/

/-- The credit of device `c`'s remote copy, owed to the receive cell of the device it writes. -/
abbrev owedCopy (c : Dev nD) : CellTallies nD τ sig Unit := tallyAt (cell (σ c) 4) () N
/-- That, and one unit to the barrier cell of every device of `S`. -/
def owed (c : Dev nD) (S : Finset (Dev nD)) : CellTallies nD τ sig Unit := owedCopy σ c + ∑ p ∈ S, tallyAt (cell p 0) () 1
/-- At launch: the copy and all sixteen signals. -/
def O₀ (c : Dev nD) : CellTallies nD τ sig Unit := owed σ c Finset.univ

theorem owed_erase (c p : Dev nD) {S : Finset (Dev nD)} (hp : p ∈ S) :
    owed σ c S = owed σ c (S.erase p) + tallyAt (cell p 0) () 1 := by
  unfold owed; rw [← Finset.sum_erase_add S _ hp, add_assoc]
theorem owed_empty (c : Dev nD) : owed σ c ∅ = owedCopy σ c := by unfold owed; rw [Finset.sum_empty, add_zero]

def L (g : GSem nD τ sig) : Finset Unit := if g.1.2 = .tc then {()} else ∅
/-- Receive cells are above all others. -/
def lv (g : GSem nD τ sig) (_ : Unit) : ℕ := if g.2 = csem 4 then 1 else 0
theorem L_of_ne (g : GSem nD τ sig) (h : g.1.2 ≠ .tc) : L g = ∅ := if_neg h
theorem L_tc (c : Dev nD) (s : SemLoc sig) : L ((c : Thread nD τ), s) = {()} := if_pos rfl

omit [FloatOps F] in
/-- A device that owes its remote copy only may wait on any cell of its own but the receive cell. -/
theorem mayWait (c : Dev nD) (k : Fin 5) (hk : k ≠ 4) :
    (levAts L lv : sProp 𝕄) ⊢ MayWait (c : Thread nD τ) (csem k) () (owedCopy σ c) :=
  have hg {g : GSem nD τ sig} {u : Unit} (h : 0 < owedCopy σ c g u) : g = cell (σ c) 4 := by
    rw [tallyAt_apply] at h
    by_contra hn; rw [if_neg fun h' => hn h'.1] at h; exact Nat.lt_irrefl 0 h
  MayOwe.of_cut (L := L) (lev := lv) 0 (fun p hp => by rw [Finset.mem_singleton.mp hp, L_tc]; exact Finset.mem_singleton_self _)
    (fun g u h => by rw [hg h, L_tc]; exact Finset.mem_singleton_self _)
    (fun p hp => by rw [Finset.mem_singleton.mp hp]; dsimp only [lv]; rw [if_neg fun h => hk (csem_injective h)])
    (fun g u h => by rw [hg h]; dsimp only [lv]; rw [if_pos rfl]; decide)

end Cert.PermuteProof

end
-- ==== Proof.Body.lean ====
/-
# The kernel's body, executed once

On a symbolic device `c`, for any float values: the body starts from the records of every cell, `c`'s positions and
duty tokens, its credit and its three arrays (`start`), and ends with its arguments as they were, its result array
holding the block of device `σ⁻¹ c` rounded to bf16, and its five semaphore counters at zero (`Φ₁`).
-/
module

public import proofs.«01_k».proof.Proof.Protocol

@[expose] public section

set_option maxRecDepth 16384

noncomputable section

namespace Cert.PermuteProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (σ : Equiv.Perm (Dev nD))

abbrev 𝒱₀ : Variants := Variants.none

/-! ## The word that names the peer -/

/-- The rectangle of the body's read of its word, and the word it reads from a table `t`. -/
abbrev wordRect (c : Dev nD) : Rect S16 := Rect.unit (s := S16) (k0_off1 c) S1.size (k0_off1_inb c)
abbrev wordRead (c : Dev nD) (t : (cc0_scratch2 : Ref sig .tc).ty.Contents (Elt F)) : BitVec 32 :=
  (tS.access (wordRect c) : View sig .tc _ _ _).read (Elt F) t (Shape.Idx.first (s := S1) (numel1_S1.symm ▸ Nat.one_pos))

omit [FloatOps F] in
/-- The body reads word `c` of the table. -/
theorem wordRead_eq (c : Dev nD) (t : (cc0_scratch2 : Ref sig .tc).ty.Contents (Elt F)) : wordRead c t = t (wordAt c) := by
  show t _ = _
  refine congrArg _ (funext fun a => Fin.ext ?_)
  fin_cases a; fin_cases c <;> rfl

/-- From a device's number the body computes that device. -/
theorem dev17_word : ∀ d : Dev nD, k0_dev17 (BitVec.ofNat 32 d.val) = d.val := by decide

section Names
variable {m σ}
variable (h : Names m σ)
include h
omit [FloatOps F]

/-- The body's check on its word holds: the word is the number of a device; -/
theorem Names.chk (c : Dev nD) : k0_chk1 (wordRead (F := F) c (tableOf m c)) := by
  rw [wordRead_eq, h c]
  show k0_dev17 (BitVec.ofNat 32 (σ c).val) < nD
  rw [dev17_word]; exact (σ c).isLt
/-- it is device `σ c`. -/
theorem Names.dev (c : Dev nD) (hw : k0_chk1 (wordRead (F := F) c (tableOf m c))) :
    (⟨k0_dev17 (wordRead (F := F) c (tableOf m c)), k0_dev17_lt _ hw⟩ : Dev nD) = σ c := by
  apply Fin.ext
  show k0_dev17 (wordRead (F := F) c (tableOf m c)) = (σ c).val
  rw [wordRead_eq, h c, dev17_word]
end Names

/-! ## The resources -/

omit [FloatOps F] in
/-- A whole buffer as the transfer rules name it: through its view. -/
theorem held_view (c : Dev nD) (b : Ref sig .tc) (f : Buf (Elt F) ((c : Thread nD τ).loc b)) :
    ((Memref.whole b).view.loc (c : Thread nD τ) ↦[(Memref.whole b).view.set]{fullShare} f : sProp 𝕄) = held c b f := by
  simp only [Memref.view_whole, View.set_whole]
omit [FloatOps F] in
/-- A whole buffer after a transfer of a whole buffer into it holds the source's contents. -/
theorem held_written (c : Dev nD) (b : Ref sig .tc) (f g : Buf (Elt F) ((c : Thread nD τ).loc b)) :
    ((Memref.whole b).view.loc (c : Thread nD τ) ↦[(Memref.whole b).view.set]{fullShare}
      ((Memref.whole b).view.write (Elt F) f g Finset.univ) : sProp 𝕄) = held c b g := by
  rw [held_view]; exact congrArg (held c b) (View.write_whole_univ b f g)

/-- Every cell's invariant, under the names `K`, and that round 0 of every cell is reached: every device knows these. -/
def records (K : Dev nD × Fin 5 → ℕ) : sProp 𝕄 :=
  iprop((bigSep Finset.univ fun ck : Dev nD × Fin 5 => cellInv ER (sched m σ) (K ck) (cell ck.1 ck.2))
    ∗ bigSep Finset.univ fun ck : Dev nD × Fin 5 => reached ER (cell ck.1 ck.2) 0)

instance records_persistent (K : Dev nD × Fin 5 → ℕ) : BI.Persistent (records m σ K) := by unfold records; infer_instance

theorem inv_of (K : Dev nD × Fin 5 → ℕ) (c : Dev nD) (k : Fin 5) :
    records m σ K ⊢ cellInv ER (sched m σ) (K (c, k)) (cell c k) := by
  unfold records; iintro ⟨H, -⟩
  iapply (show (bigSep Finset.univ fun ck : Dev nD × Fin 5 => (cellInv ER (sched m σ) (K ck) (cell ck.1 ck.2) : sProp 𝕄))
    ⊢ cellInv ER (sched m σ) (K (c, k)) (cell c k) from bigSep_elim (Finset.mem_univ (c, k)))
  iexact H
theorem reached_of (K : Dev nD × Fin 5 → ℕ) (c : Dev nD) (k : Fin 5) : records m σ K ⊢ reached ER (cell c k) 0 := by
  unfold records; iintro ⟨-, H⟩
  iapply (show (bigSep Finset.univ fun ck : Dev nD × Fin 5 => (reached ER (cell ck.1 ck.2) 0 : sProp 𝕄))
    ⊢ reached ER (cell c k) 0 from bigSep_elim (Finset.mem_univ (c, k)))
  iexact H

/-- Device `c`'s duty of the cell of device `p` at semaphore `k`; its single-duty cells' only duty is named by device 0. -/
abbrev tok (p : Dev nD) (k : Fin 5) (d : Dev nD) : sProp 𝕄 := dutyTok ER (cell p k) 0 d

/-- What device `c` owns alone: its position in its five cells, the tokens of the sixteen signals it sends, and those of
    its two local copies and of its remote copy. -/
def own (c : Dev nD) : sProp 𝕄 :=
  iprop((bigSep Finset.univ fun k : Fin 5 => atPos ER (cell c k) 0 ∅ 0)
    ∗ (bigSep Finset.univ fun p : Dev nD => tok p 0 c) ∗ tok c 1 0 ∗ tok c 2 0 ∗ tok c 3 0 ∗ tok (σ c) 4 0)

/-- Device `c`'s three arrays as launched. -/
def arrays (c : Dev nD) : sProp 𝕄 :=
  iprop(held c main_arg0 (blockOf m c) ∗ held c main_arg1 (tableOf m c) ∗ held c main_v1 (m ((c : Thread nD τ).loc main_v1)))

/-- The three scratch buffers at whatever contents. -/
def scratch (c : Dev nD) : sProp 𝕄 :=
  iprop((∃ f, held c cc0_scratch0 f) ∗ (∃ f, held c cc0_scratch1 f) ∗ (∃ f, held c cc0_scratch2 f))

/-- What device `c`'s kernel starts from, besides its scratch buffers: its ghost state, the credit for the sixteen units
    and for the copy it will receive, the levels, and its arrays. -/
def start (c : Dev nD) : sProp 𝕄 :=
  iprop((∃ K, records m σ K ∗ own σ c)
    ∗ (cred (tallyAt (cell c 0) () 16) ∗ cred (tallyAt (cell c 4) () N)) ∗ levAts L lv ∗ arrays m c)

/-- Device `c`'s arrays at the end: the arguments as launched, the result holding what `σ⁻¹ c` sent. -/
def results (c : Dev nD) : sProp 𝕄 :=
  iprop(held c main_arg0 (blockOf m c) ∗ held c main_arg1 (tableOf m c) ∗ held c main_v1 (sentBy m (σ.symm c)))

def Φ₀ (c : Dev nD) : sProp 𝕄 := iprop(start m σ c ∗ scratch c)
def Φ₁ (c : Dev nD) : sProp 𝕄 :=
  iprop(results m σ c ∗ scratch c ∗ bigSep Finset.univ fun k : Fin 5 => semVal (cell c k) 0)

/-- The devices from number `j` on. -/
def devsFrom (j : ℕ) : Finset (Dev nD) := Finset.univ.filter fun p => j ≤ p.val
theorem devsFrom_zero : devsFrom 0 = Finset.univ := Finset.filter_true_of_mem fun _ _ => Nat.zero_le _
theorem devsFrom_end : devsFrom nD = ∅ := Finset.filter_false_of_mem fun p _ => Nat.not_le_of_lt p.isLt
theorem mem_devsFrom (p : Dev nD) : p ∈ devsFrom p.val := Finset.mem_filter.mpr ⟨Finset.mem_univ _, le_refl _⟩
theorem devsFrom_succ (p : Dev nD) : (devsFrom p.val).erase p = devsFrom (p.val + 1) := by
  ext q; simp only [devsFrom, Finset.mem_erase, Finset.mem_filter, Finset.mem_univ, true_and, ne_eq, Fin.ext_iff]; omega

/-- The signals of device `c` still to be sent, to the devices from `j` on: what it owes, their tokens and what they hand
    over. -/
def pending (c : Dev nD) (j : ℕ) (W : Waits sig Unit) : sProp 𝕄 :=
  iprop(owes (c : Thread nD τ) (owed σ c (devsFrom j)) W ∗ bigSep (devsFrom j) fun p => iprop(tok p 0 c ∗ barPay σ p c))

/-! ## The rules at this protocol's cells -/

section Rules
variable (K : Dev nD × Fin 5 → ℕ)

/-- A signal of one unit to the barrier cell of `n`, the next in order. -/
theorem wp_signal_bar {α : Type} {Q : α → sProp 𝕄} {k : PUnit → Prog (TpuEff nD τ sig (Elt F) Λ₀ .tc) α}
    (c n : Dev nD) (W : Waits sig Unit) :
    iprop(records m σ K ∗ pending σ c n.val W)
      ⊢ iprop((pending σ c (n.val + 1) W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (Dev.tc n) barS (1#32 : BitVec 32).toInt) k) Q) := by
  rw [show (1#32 : BitVec 32).toInt = ((1 : ℕ) : Int) from rfl]
  unfold pending
  rw [← devsFrom_succ n, show (bigSep (devsFrom n.val) fun p => iprop(tok p 0 c ∗ barPay σ p c) : sProp 𝕄)
      = iprop((tok n 0 c ∗ barPay σ n c) ∗ bigSep ((devsFrom n.val).erase n) fun p => iprop(tok p 0 c ∗ barPay σ p c)) from bigSep_erase (mem_devsFrom n)]
  iintro ⟨#HR, HO, ⟨Ht, Hp⟩, Hrest⟩ Hk
  iapply (Rounds.wp_signal 𝒱₀ ER (sched m σ) (c : Thread nD τ) none (dst := (n : Thread nD τ)) (sem := barS) (κ := K (n, 0))
      (d := c) (by rw [duties_cell m σ n 0]; exact Finset.mem_univ _) (amount_cell m σ n 0 c 0) () (owed σ c ((devsFrom n.val).erase n))
      (owed_erase σ c n (mem_devsFrom n))) $$ [HO Ht Hp]
  · isplitr; · iapply (inv_of m σ K n 0); iexact HR
    isplitl [HO]; · iexact HO
    isplitl [Ht]; · iexact Ht
    isplitl [Hp]; · iapply (Entails.of_eq (show barPay σ n c = (sched m σ).payload (cell n 0) 0 c from (payload_cell m σ n 0 c 0).symm)); iexact Hp
    iapply (reached_of m σ K n 0); iexact HR
  iintro HO
  iapply Hk
  isplitl [HO] <;> iassumption

/-- A wait for everything that the duties of one of its own cells bring. -/
theorem wp_await {α : Type} {Q : α → sProp 𝕄} {k : PUnit → Prog (TpuEff nD τ sig (Elt F) Λ₀ .tc) α}
    (c : Dev nD) (i : Fin 5) {w : TpuEff nD τ sig (Elt F) Λ₀ .tc PUnit} {n : ℕ}
    (hw : ∀ K : PUnit → sProp 𝕄, wpE (defs₀ (F := F)) 𝒱₀ (c : Thread nD τ) none Set.univ w K = waitSpec (c : Thread nD τ) Set.univ (csem i) n K)
    (hn : n = (dutiesOf i).card * unitsOf i) (O : CellTallies nD τ sig Unit) (W : Waits sig Unit) :
    iprop(records m σ K ∗ cred (tallyAt (cell c i) () n) ∗ owes (c : Thread nD τ) O W ∗ MayWait (c : Thread nD τ) (csem i) () O
        ∗ atPos ER (cell c i) 0 ∅ 0)
      ⊢ iprop(((owes (c : Thread nD τ) O (insert (csem i, ()) W) ∗ atPos ER (cell c i) 1 ∅ 0 ∗ bigSep (dutiesOf i) (payOf m σ i c))
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  rw [← rest_cell m σ c i]
  iintro ⟨#HR, Hc, HO, Hw, Hat⟩ Hk
  iapply (Rounds.wp_wait_rest_token 𝒱₀ ER (sched m σ) (c : Thread nD τ) none (κ := K (c, i)) (sm := csem i)
      hw (Set.mem_univ _) () (O := O) (W := W) (R := 0) (m := 0) (T := ∅)
      (by rw [Nat.zero_add, hn]; exact (expect_cell m σ c i).symm)) $$ [Hc HO Hw Hat]
  · isplitr; · iapply (inv_of m σ K c i); iexact HR
    isplitl [Hc]; · iexact Hc
    isplitl [HO]; · iexact HO
    isplitl [Hw] <;> iassumption
  iintro ⟨HO, Hat, -, Hp⟩
  iapply Hk
  isplitl [HO]; · iexact HO
  isplitl [Hat] <;> iassumption

/-- The remote copy, to a device `n` that is `σ c`. -/
theorem wp_send_block {α : Type} {Q : α → sProp 𝕄} {k : PUnit → Prog (TpuEff nD τ sig (Elt F) Λ₀ .tc) α}
    (c n : Dev nD) (hn : n = σ c) {hsc : (outH : Memref sig (Dev.tc n : Thread nD τ).2.kind .hbm S1x256x256 .bf16).view.ref.isScScratch = false}
    {hsrc : sendV.view.WordExact} {hdst : (outH : Memref sig .tc .hbm S1x256x256 .bf16).view.WordExact}
    {hsem : DmaTarget.Typed .vmem (.dma recvS) (.remote (Dev.tc n : Thread nD τ) (outH : Memref sig .tc .hbm S1x256x256 .bf16) (.dma sendS) hsc)}
    (W : Waits sig Unit) :
    iprop(records m σ K ∗ held c cc0_scratch1 (sentBy m c) ∗ lent (σ c) ∗ owes (c : Thread nD τ) (owedCopy σ c) W ∗ tok c 3 0 ∗ tok (σ c) 4 0)
      ⊢ iprop(((cred (tallyAt (cell c 3) () N) ∗ owes (c : Thread nD τ) 0 W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sendV (.remote (Dev.tc n : Thread nD τ) outH (.dma sendS) hsc) (.dma recvS) hsrc hdst hsem) k) Q) := by
  subst hn
  unfold lent
  iintro ⟨#HR, Hs, ⟨%fn, Hd⟩, HO, Ht3, Ht4⟩ Hk
  iapply (Rounds.wp_send_pointsTo 𝒱₀ ER (sched m σ) (c : Thread nD τ) none (κ₁ := K (c, 3)) (κ₂ := K (σ c, 4))
      (src := sendV) (dst := outH) (sS := .dma sendS) (sem := .dma recvS) (c' := (σ c : Thread nD τ))
      (r₁ := 0) (r₂ := 0) (d₁ := 0) (d₂ := 0) (fs := sentBy m c) (fd := fn)
      (by rw [duties_cell m σ c 3]; exact Finset.mem_singleton_self _) (by rw [duties_cell m σ (σ c) 4]; exact Finset.mem_singleton_self _)
      () () N rfl (amount_cell m σ c 3 0 0) (amount_cell m σ (σ c) 4 0 0) 0 (by rw [zero_add]) (W := W)
      (by rw [held_view]; exact Entails.of_eq (payload_cell m σ c 3 0 0).symm)
      (by
        have hσ : held (σ c) main_v1 (sentBy m c) = payOf m σ 4 (σ c) 0 := by
          show _ = held (σ c) main_v1 (sentBy m (σ.symm (σ c))); rw [Equiv.symm_apply_apply]
        exact Entails.of_eq ((held_written (σ c) main_v1 fn (sentBy m c)).trans (hσ.trans (payload_cell m σ (σ c) 4 0 0).symm)))) $$ [Hs Hd HO Ht3 Ht4]
  · isplitr; · iapply (inv_of m σ K c 3); iexact HR
    isplitr; · iapply (inv_of m σ K (σ c) 4); iexact HR
    isplitl [Hs]; · iapply (Entails.of_eq (held_view c cc0_scratch1 (sentBy m c)).symm); iexact Hs
    isplitl [Hd]; · iapply (Entails.of_eq (held_view (σ c) main_v1 fn).symm); iexact Hd
    isplitl [HO]; · iexact HO
    isplitl [Ht3]; · iexact Ht3
    isplitr; · iapply (reached_of m σ K c 3); iexact HR
    isplitl [Ht4]; · iexact Ht4
    iapply (reached_of m σ K (σ c) 4); iexact HR
  iexact Hk

/-- A cell of `c` whose round is over closes: its counter is zero, and `c`'s again. -/
theorem close_cell (c : Dev nD) (i : Fin 5) :
    iprop(records m σ K ∗ atPos ER (cell c i) 1 ∅ 0) ⊢ |={Set.univ}=> semVal (cell c i) 0 := by
  iintro ⟨#HR, Hat⟩
  iapply (Rounds.cell_close ER (sched m σ) (Set.mem_univ (K (c, i))) (fun h => h) (R := 0 + 1) (duties_later m σ (cell c i)))
  isplitr; · iapply (inv_of m σ K c i); iexact HR
  iexact Hat

end Rules

end Cert.PermuteProof

end
-- ==== Proof.Sound.lean ====
/-
# The body meets the pipeline's obligation

The body is executed symbolically on device `c`, one rule per effect: it starts its two local copies, signals all sixteen
devices, waits for its block and rounds it into the send buffer, waits for its table and reads the word that names its
peer, waits for the sixteen signals, sends the buffer, and waits for the send and for the block it is sent.
-/
module

public import proofs.«01_k».proof.Proof.Body

@[expose] public section

set_option maxRecDepth 16384

noncomputable section

namespace Cert.PermuteProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (σ : Equiv.Perm (Dev nD))

theorem cfg0_N : cfg0.N = 1 := by decide
/-- The grid's one point. -/
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The proof data of the one region: it stages nothing; before its point the body's start, after it the results. -/
def dats (_ : Fin 1) (c : Dev nD) : Dat τ (Elt F) Unit ℕ UU ℕ cfg0 c where
  A w := w.elim0
  after w _ := w.elim0
  Φ t := match t with
    | ⟨0, _⟩ => Φ₀ m σ c
    | ⟨_ + 1, _⟩ => Φ₁ m σ c
  q _ := fullShare
  owed t := match t with
    | ⟨0, _⟩ => O₀ σ c
    | ⟨_ + 1, _⟩ => 0

/-! ## The buffers' contents after a load, after the store -/

/-- The rectangle of the body's loads and of its store: the whole buffer. -/
abbrev rect : Rect S1x256x256 := Rect.unit (s := S1x256x256) ![0, 0, 0] S1x256x256.size inb_S1x256x256_S1x256x256_0_0_0

omit [FloatOps F] in
theorem rect_zero : (![0, 0, 0] : Fin 3 → Nat) = fun _ => 0 := funext fun a => by fin_cases a <;> rfl
omit [FloatOps F] in
theorem read_x (f : (cc0_scratch0 : Ref sig .tc).ty.Contents (Elt F)) : xV.view.readAt (Elt F) rect.toLoadRect f = f :=
  Memref.readAt_unit_zero (Elt F) cc0_scratch0 rect_zero _ f
omit [FloatOps F] in
theorem write_send (f w : (cc0_scratch1 : Ref sig .tc).ty.Contents (Elt F)) :
    (sendV.access rect : View sig .tc _ _ _).write (Elt F) f w Finset.univ = w :=
  Memref.write_access_unit_zero_univ (Elt F) cc0_scratch1 rect_zero _ f w

/-! ## The body -/

omit [FloatOps F] in
/-- The signals to be sent, made of their tokens and the device's own result array, which one of them hands over. -/
theorem pending_intro (c : Dev nD) (W : Waits sig Unit) (f : Buf (Elt F) ((c : Thread nD τ).loc main_v1)) :
    iprop(owes (c : Thread nD τ) (O₀ σ c) W ∗ (bigSep Finset.univ fun p : Dev nD => tok p 0 c) ∗ held c main_v1 f)
      ⊢ (pending σ c 0 W : sProp 𝕄) := by
  unfold pending O₀
  rw [devsFrom_zero]
  rw [bigSep_sep', barPay_given]
  unfold lent
  iintro ⟨HO, Ht, Hf⟩
  isplitl [HO]; · iexact HO
  isplitl [Ht]; · iexact Ht
  iexists f; iexact Hf

omit [FloatOps F] in
/-- After the last signal the device owes its remote copy only. -/
theorem pending_done (c : Dev nD) (W : Waits sig Unit) :
    (pending σ c ((⟨k0_dev16, k0_dev16_lt⟩ : Dev nD).val + 1) W : sProp 𝕄) ⊢ owes (c : Thread nD τ) (owedCopy σ c) W := by
  rw [show (⟨k0_dev16, k0_dev16_lt⟩ : Dev nD).val + 1 = nD by decide]
  unfold pending; rw [devsFrom_end, owed_empty]
  iintro ⟨HO, -⟩; iexact HO

omit [FloatOps F] in
theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- What the one duty of a single-duty cell brings. -/
theorem got_one (c : Dev nD) (i : Fin 5) (hi : dutiesOf i = {0}) : bigSep (dutiesOf i) (payOf m σ i c) = payOf m σ i c 0 := by
  rw [hi, bigSep_singleton]
/-- What the sixteen duties of the barrier cell bring. -/
theorem got_bar (c : Dev nD) : bigSep (dutiesOf 0) (payOf m σ 0 c) = lent (σ c) := barPay_got σ c

def bodyPre (K : Dev nD × Fin 5 → ℕ) (c : Dev nD) : sProp 𝕄 :=
  iprop((records m σ K ∗ own σ c ∗ (cred (tallyAt (cell c 0) () 16) ∗ cred (tallyAt (cell c 4) () N)) ∗ levAts L lv ∗ arrays m c ∗ scratch c)
    ∗ (dats m σ 0 c).owesAt () t₀.castSucc)
def bodyPost (c : Dev nD) : sProp 𝕄 := iprop(Φ₁ m σ c ∗ (dats m σ 0 c).owesAt () t₀.succ)

set_option maxHeartbeats 4000000 in
/-- The body, from `bodyPre` to `bodyPost`. -/
theorem sound_body (hN : Names m σ) (K : Dev nD × Fin 5 → ℕ) (c : Dev nD) (Kt : PUnit → sProp 𝕄) :
    iprop(bodyPre m σ K c ∗ (bodyPost m σ c -∗ Kt ⟨⟩))
      ⊢ wp frame (wpE (defs₀ (F := F)) 𝒱₀ c none) Set.univ
          (cc0_body xH (Memref.isWhole_whole _) tH (Memref.isWhole_whole _) outH (Memref.isWhole_whole _) xV (Memref.isWhole_whole _)
            sendV (Memref.isWhole_whole _) tS (Memref.isWhole_whole _) cc0_scratch3 cc0_scratch4 cc0_scratch5 cc0_scratch6) Kt := by
  simp only [cc0_body_eq_skeleton, k0_part1_eq_skeleton, k0_part2_eq_skeleton]
  unfold cc0_body_skel
  simp only [k0_part1_eq_skeleton, k0_part2_eq_skeleton]
  unfold k0_part1_skel k0_part2_skel
  simp only [semSignalWord, semWaitWord, smemLoad, smemLoadElt, Prog.lift, Prog.bind_op, Prog.bind_ret, Prog.pure_eq_ret, Prog.bind_assoc, wp_deviceId]
  unfold bodyPre own arrays scratch
  rw [bigSep_five]
  iintro ⟨⟨⟨#HR, ⟨⟨HaB, HaX, HaT, HaS, HaV⟩, HtB, HtX, HtT, HtS, HtV⟩, ⟨HcB, HcV⟩, #Hlev, ⟨Hx, Ht, Ho⟩, ⟨%fx, Hfx⟩, ⟨%fs, Hfs⟩, ⟨%ft, Hft⟩⟩, Ho'⟩, Hk⟩
  unfold Dat.owesAt Pipeline.owesWithin
  icases Ho' with ⟨%W, %hW, HO⟩
  rw [show (dats m σ 0 c).owed t₀.castSucc = O₀ σ c from rfl]
  -- the copy of the block into VMEM
  iapply (Rounds.wp_copy_pointsTo 𝒱₀ ER (sched m σ) (c : Thread nD τ) none (κ := K (c, 1)) (src := xH) (dst := xV) (sem := .dma loadS)
      (r := 0) (d := 0) (fs := blockOf m c) (fd := fx) (q := fullShare)
      (by rw [duties_cell m σ c 1]; exact Finset.mem_singleton_self _) () NX rfl (amount_cell m σ c 1 0 0)
      (by
        rw [payload_cell m σ c 1 0 0]
        exact BIClass.sep_mono (Entails.of_eq (held_written c cc0_scratch0 fx (blockOf m c))) (Entails.of_eq (held_view c main_arg0 _)))) $$ [Hx Hfx HtX]
  · isplitr; · iapply (inv_of m σ K c 1); iexact HR
    isplitl [Hx]; · iapply (Entails.of_eq (held_view c main_arg0 (blockOf m c)).symm); iexact Hx
    isplitl [Hfx]; · iapply (Entails.of_eq (held_view c cc0_scratch0 fx).symm); iexact Hfx
    isplitl [HtX]; · iexact HtX
    iapply (reached_of m σ K c 1); iexact HR
  iintro HcX
  -- the copy of the table into SMEM
  iapply (Rounds.wp_copy_pointsTo 𝒱₀ ER (sched m σ) (c : Thread nD τ) none (κ := K (c, 2)) (src := tH) (dst := tS) (sem := .dma tableS)
      (r := 0) (d := 0) (fs := tableOf m c) (fd := ft) (q := fullShare)
      (by rw [duties_cell m σ c 2]; exact Finset.mem_singleton_self _) () NT rfl (amount_cell m σ c 2 0 0)
      (by
        rw [payload_cell m σ c 2 0 0]
        exact BIClass.sep_mono (Entails.of_eq (held_written c cc0_scratch2 ft (tableOf m c))) (Entails.of_eq (held_view c main_arg1 _)))) $$ [Ht Hft HtT]
  · isplitr; · iapply (inv_of m σ K c 2); iexact HR
    isplitl [Ht]; · iapply (Entails.of_eq (held_view c main_arg1 (tableOf m c)).symm); iexact Ht
    isplitl [Hft]; · iapply (Entails.of_eq (held_view c cc0_scratch2 ft).symm); iexact Hft
    isplitl [HtT]; · iexact HtT
    iapply (reached_of m σ K c 2); iexact HR
  iintro HcT
  -- the sixteen signals, to devices 0, 1, …, 15
  ihave HP := (pending_intro σ c W _) $$ [HO HtB Ho]
  · isplitl [HO]; · iexact HO
    isplitl [HtB] <;> iassumption
  iterate 16
    iapply (wp_signal_bar m σ K c _ W) $$ [HP]
    · isplitr; · iexact HR
      iexact HP
    iintro HP
  ihave HO := (pending_done σ c W) $$ HP
  -- the wait for the block; then it is rounded into the send buffer
  iapply (wp_await m σ K c 1 (wpE_waitDma2_eq 𝒱₀ (c : Thread nD τ) none Set.univ) (Nat.one_mul _).symm (owedCopy σ c) W) $$ [HcX HO HaX]
  · isplitr; · iexact HR
    isplitl [HcX]; · iexact HcX
    isplitl [HO]; · iexact HO
    isplitr; · iapply (mayWait σ c 1 (by decide)); iexact Hlev
    iexact HaX
  iintro ⟨HO, HaX, Hp⟩
  ihave Hp := (Entails.of_eq (got_one m σ c 1 rfl)) $$ Hp
  unfold payOf
  icases Hp with ⟨Hfx, Hx⟩
  iapply (wp_load 𝒱₀ (c : Thread nD τ) none Set.univ (m := xV) (Finset.subset_univ _)) $$ Hfx; iintro Hfx
  rw [read_x]
  iapply (wp_load 𝒱₀ (c : Thread nD τ) none Set.univ (m := sendV) (Finset.subset_univ _)) $$ Hfs; iintro Hfs
  iapply (wp_store 𝒱₀ (c : Thread nD τ) none Set.univ (m := sendV) (r := rect) (Mk := Finset.univ) (Finset.subset_univ _)) $$ Hfs; iintro Hfs
  rw [write_send]
  -- the wait for the table; word `c` of it passes the check
  iapply (wp_await m σ K c 2 (wpE_waitDma2_eq 𝒱₀ (c : Thread nD τ) none Set.univ) (Nat.one_mul _).symm (owedCopy σ c) _) $$ [HcT HO HaT]
  · isplitr; · iexact HR
    isplitl [HcT]; · iexact HcT
    isplitl [HO]; · iexact HO
    isplitr; · iapply (mayWait σ c 2 (by decide)); iexact Hlev
    iexact HaT
  iintro ⟨HO, HaT, Hp⟩
  ihave Hp := (Entails.of_eq (got_one m σ c 2 rfl)) $$ Hp
  unfold payOf
  icases Hp with ⟨Hft, Ht⟩
  iapply (wp_load_rect 𝒱₀ (c : Thread nD τ) none Set.univ (m := tS) (r := wordRect c) (Finset.subset_univ _)) $$ Hft; iintro Hft
  simp only [wp_assume_of _ _ _ _ (d := k0_chk1.dec _) (hN.chk c)]
  -- the wait for the sixteen signals: the result array of the peer comes with them
  iapply (wp_await m σ K c 0 (n := 16) (wpE_semWait_eq 𝒱₀ (c : Thread nD τ) none Set.univ) (by decide) (owedCopy σ c) _) $$ [HcB HO HaB]
  · isplitr; · iexact HR
    isplitl [HcB]; · iexact HcB
    isplitl [HO]; · iexact HO
    isplitr; · iapply (mayWait σ c 0 (by decide)); iexact Hlev
    iexact HaB
  iintro ⟨HO, HaB, Hp⟩
  ihave Hd := (Entails.of_eq (got_bar m σ c)) $$ Hp
  -- the remote copy
  iapply (wp_send_block m σ K c _ (hN.dev c (hN.chk c)) _) $$ [Hfs Hd HO HtS HtV]
  · isplitr; · iexact HR
    isplitl [Hfs]; · iexact Hfs
    isplitl [Hd]; · iexact Hd
    isplitl [HO]; · iexact HO
    isplitl [HtS] <;> iassumption
  iintro ⟨HcS, HO⟩
  -- the waits for the send and for the block sent here
  iapply (wp_await m σ K c 3 (n := sendV.view.dmaCredit) (wpE_waitDma2_eq 𝒱₀ (c : Thread nD τ) none Set.univ) (sendV_credit.trans (Nat.one_mul _).symm) 0 _) $$ [HcS HO HaS]
  · isplitr; · iexact HR
    isplitl [HcS]; · iexact HcS
    isplitl [HO]; · iexact HO
    isplitr; · rw [MayWait_zero]; iempintro
    iexact HaS
  iintro ⟨HO, HaS, Hp⟩
  ihave Hfs := (Entails.of_eq (got_one m σ c 3 rfl)) $$ Hp
  iapply (wp_await m σ K c 4 (wpE_waitDma2_eq 𝒱₀ (c : Thread nD τ) none Set.univ) (Nat.one_mul _).symm 0 _) $$ [HcV HO HaV]
  · isplitr; · iexact HR
    isplitl [HcV]; · iexact HcV
    isplitl [HO]; · iexact HO
    isplitr; · rw [MayWait_zero]; iempintro
    iexact HaV
  iintro ⟨HO, HaV, Hp⟩
  ihave Ho := (Entails.of_eq (got_one m σ c 4 rfl)) $$ Hp
  unfold payOf
  -- the five cells close
  imod (close_cell m σ K c 0) $$ [HaB] with HzB
  · isplitr; · iexact HR
    iexact HaB
  imod (close_cell m σ K c 1) $$ [HaX] with HzX
  · isplitr; · iexact HR
    iexact HaX
  imod (close_cell m σ K c 2) $$ [HaT] with HzT
  · isplitr; · iexact HR
    iexact HaT
  imod (close_cell m σ K c 3) $$ [HaS] with HzS
  · isplitr; · iexact HR
    iexact HaS
  imod (close_cell m σ K c 4) $$ [HaV] with HzV
  · isplitr; · iexact HR
    iexact HaV
  rw [wp_ret]; imodintro
  iapply Hk
  unfold bodyPost Φ₁ results scratch Dat.owesAt Pipeline.owesWithin
  rw [show (dats m σ 0 c).owed t₀.succ = 0 from rfl, bigSep_five]
  isplitr [HO]
  · isplitl [Hx Ht Ho]
    · isplitl [Hx]; · iexact Hx
      isplitl [Ht] <;> iassumption
    isplitl [Hfx Hfs Hft]
    · isplitl [Hfx]; · iexists _; iexact Hfx
      isplitl [Hfs]; · iexists _; iexact Hfs
      iexists _; iexact Hft
    isplitl [HzB]; · iexact HzB
    isplitl [HzX]; · iexact HzX
    isplitl [HzT]; · iexact HzT
    isplitl [HzS] <;> iassumption
  iexists (insert (csem 4, ()) (insert (csem 3, ()) (insert (csem 0, ()) (insert (csem 2, ()) (insert (csem 1, ()) W)))))
  isplitr; · ipureintro; exact fun _ _ => Or.inl trivial
  iexact HO

/-- The library's body obligation on device `c`. -/
theorem body_obligation (hN : Names m σ) (c : Dev nD) : BodyObligation (dats (F := F) m σ 0 c) (defs₀ (F := F)) 𝒱₀ () Set.univ := fun t => by
  rw [fin_N t]
  rw [Finset.univ_eq_empty, bigSep_empty, bigSep_empty]
  show iprop(Φ₀ m σ c ∗ (dats m σ 0 c).owesAt () t₀.castSucc ∗ emp) ⊢ wp frame (wpE (defs₀ (F := F)) 𝒱₀ c none) Set.univ
    (cc0_body xH (Memref.isWhole_whole _) tH (Memref.isWhole_whole _) outH (Memref.isWhole_whole _) xV (Memref.isWhole_whole _)
      sendV (Memref.isWhole_whole _) tS (Memref.isWhole_whole _) cc0_scratch3 cc0_scratch4 cc0_scratch5 cc0_scratch6)
    (fun _ => iprop(Φ₁ m σ c ∗ (dats m σ 0 c).owesAt () t₀.succ ∗ emp))
  unfold Φ₀ start
  iintro ⟨⟨⟨⟨%K, HR, Hown⟩, Hc, Hlev, Ha⟩, Hs⟩, HO, -⟩
  iapply (sound_body m σ hN K c fun _ => iprop(Φ₁ m σ c ∗ (dats m σ 0 c).owesAt () t₀.succ ∗ emp))
  unfold bodyPre
  isplitr []
  · isplitr [HO]
    · isplitl [HR]; · iexact HR
      isplitl [Hown]; · iexact Hown
      isplitl [Hc]; · iexact Hc
      isplitl [Hlev]; · iexact Hlev
      isplitl [Ha] <;> iassumption
    iexact HO
  · unfold bodyPost
    iintro ⟨H, HO⟩
    isplitl [H]; · iexact H
    isplitl [HO]; · iexact HO
    iempintro

end Cert.PermuteProof

end
-- ==== Proof.Deal.lean ====
/-
# What the launch deals to each device

Every cell's invariant is set up for all devices at once, from the cells' counters at zero. Then each device is dealt what
it needs (`own`): its positions, the token of the signal it owes to every device's barrier cell, the tokens of its own
copies, and, along `σ`, the token of the receive cell it writes to. The launch's credit comes to sixteen units on every
barrier cell and to one copy on every receive cell.
-/
module

public import proofs.«01_k».proof.Proof.Sound
public import Idealize.ShloMosaic.Lib.Pipeline.CollectiveSegs

@[expose] public section

set_option maxRecDepth 16384

noncomputable section

namespace Cert.PermuteProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (σ : Equiv.Perm (Dev nD))

/-! ## Cells and tokens -/

/-- The kernel's own semaphores: the four DMA semaphores. -/
abbrev osem : Fin 4 → SemLoc sig := fun k => csem k.succ
theorem ownSemFacts : Pipeline.OwnSemFacts cfg0.spec osem := by decide

abbrev kcell (ck : Dev nD × Fin 5) : GSem nD τ sig := cell ck.1 ck.2
theorem kcell_injective : Function.Injective kcell := fun _ _ h => Prod.ext (cell_inj h).1 (cell_inj h).2
/-- All the cells of all the devices. -/
def allCells : Finset (GSem nD τ sig) := Finset.univ.map ⟨kcell, kcell_injective⟩

/-- A token for every cell and every device that could pay a duty of it; the ones no duty uses are dropped. -/
abbrev tokOf (x : (Dev nD × Fin 5) × Dev nD) : GSem nD τ sig × ℕ × Dev nD := (kcell x.1, 0, x.2)
theorem tokOf_injective : Function.Injective tokOf := fun _ _ h =>
  Prod.ext (kcell_injective (congrArg Prod.fst h)) (congrArg (fun y => y.2.2) h)
def allToks : Finset (GSem nD τ sig × ℕ × Dev nD) := Finset.univ.map ⟨tokOf, tokOf_injective⟩

/-- The launch element: the launch library's, and this protocol's cells and tokens. -/
def u₀ : UU := (initOf (Pipeline.cells cfgs cellOf_inj) (Pipeline.launchToks cfgs cellOf_inj), initOf allCells allToks)

/-- The tokens of device `c`'s cells. -/
def toks (c : Dev nD) : sProp 𝕄 := bigSep Finset.univ fun k : Fin 5 => bigSep Finset.univ fun d : Dev nD => tok c k d
/-- The positions of device `c`, with round 0 reached. -/
def positions (c : Dev nD) : sProp 𝕄 := bigSep Finset.univ fun k : Fin 5 => iprop(atPos ER (cell c k) 0 ∅ 0 ∗ reached ER (cell c k) 0)

/-- What the launch element gives device `c`: its cells' round states, its positions, its cells' tokens. -/
def G (c : Dev nD) : sProp 𝕄 :=
  iprop((bigSep Finset.univ fun k : Fin 5 => roundState ER (sched m σ) (cell c k) 0) ∗ positions c ∗ toks c)
/-- What it is dealt in the end. -/
def G' (c : Dev nD) : sProp 𝕄 := iprop(∃ K, records m σ K ∗ own σ c)

theorem fund_all : BI.own (ER (initOf allCells allToks)) ⊢ (|==> bigSep Finset.univ (G m σ) : sProp 𝕄) := by
  have hX (Φ : GSem nD τ sig → sProp 𝕄) : bigSep allCells Φ = bigSep Finset.univ fun c : Dev nD => bigSep Finset.univ fun k : Fin 5 => Φ (cell c k) := by
    unfold allCells; rw [bigSep_map, bigSep_univ_prod]; rfl
  have hT : bigSep allToks (fun x => (dutyTok ER x.1 x.2.1 x.2.2 : sProp 𝕄)) = bigSep Finset.univ fun c : Dev nD => toks c := by
    unfold allToks toks; rw [bigSep_map, bigSep_univ_prod, bigSep_univ_prod]; rfl
  iintro HX
  imod (Rounds.fund ER (sched m σ) allCells allToks) $$ HX with ⟨Hst, Hr, Hat, Htok⟩
  imodintro
  ihave Hst' := (Entails.of_eq (hX fun g => roundState ER (sched m σ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G positions; simp only [bigSep_sep']
  isplitl [Hst']; · iexact Hst'
  isplitl [Hat' Hr']
  · isplitl [Hat'] <;> iassumption
  iexact Htok'

/-! ## The cells' counters -/

omit [FloatOps F] in
/-- The DMA semaphores are the kernel's own four; -/
theorem ownSems0_eq (c : Dev nD) : (Pipeline.ownSems0 (Ix := Unit) (Name := ℕ) (U := UU) (Lvl := ℕ) (Val := Elt F) (τ := τ) osem c : sProp 𝕄)
    = iprop(semVal (cell c 1) 0 ∗ semVal (cell c 2) 0 ∗ semVal (cell c 3) 0 ∗ semVal (cell c 4) 0) := by
  rw [Pipeline.ownSems0_eq_of_list c osem [0, 1, 2, 3] (by decide) (by decide)]; rfl
omit [FloatOps F] in
/-- the barrier semaphore is the launch's one unscoped semaphore; -/
theorem unscopedSems0_eq (c : Dev nD) : (unscopedSems0 c : sProp 𝕄) = semVal (cell c 0) 0 := by
  unfold unscopedSems0; rw [bigSep_eq_bigSepL_of_eq [SemLoc.reg barS] (by decide) (by decide)]; rfl
omit [FloatOps F] in
/-- so together they are the five counters. -/
theorem sems0_eq (c : Dev nD) : (bigSep Finset.univ fun k : Fin 5 => semVal (cell c k) 0 : sProp 𝕄)
    = iprop(unscopedSems0 c ∗ Pipeline.ownSems0 (Ix := Unit) (Name := ℕ) (U := UU) (Lvl := ℕ) (Val := Elt F) (τ := τ) osem c) := by
  rw [ownSems0_eq, unscopedSems0_eq, bigSep_five]

/-- Device `c`'s counters and round states become its cells' invariants. -/
theorem core_alloc (c : Dev nD) :
    iprop(Pipeline.ownSems0 (Ix := Unit) (Name := ℕ) (U := UU) (Lvl := ℕ) (Val := Elt F) (τ := τ) osem c ∗ unscopedSems0 c ∗ G m σ c)
      ⊢ |={Set.univ}=> iprop((bigSep Finset.univ fun k => iprop(∃ κ : ℕ, cellInv ER (sched m σ) κ (cell c k))) ∗ positions c ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Fin 5 => semVal (cell c k) 0) ∗ bigSep Finset.univ fun k : Fin 5 => roundState ER (sched m σ) (cell c k) 0)
      ⊢ (|={Set.univ}=> bigSep Finset.univ fun k => iprop(∃ κ : ℕ, cellInv ER (sched m σ) κ (cell c k)) : sProp 𝕄) from by
        rw [← bigSep_sep']
        exact (bigSep_mono fun k _ => (Rounds.body_intro ER (sched m σ) (cell c k)).trans inv_alloc).trans (bigSep_fupd _ _)) $$ [Hv Hst] with Hinv
  · isplitl [Hv] <;> iassumption
  imodintro
  isplitl [Hinv]; · iexact Hinv
  isplitl [Hat] <;> iassumption

/-! ## The deal -/

/-- The tokens of the duties that device `c` pays. -/
def payToks (c : Dev nD) : sProp 𝕄 :=
  iprop((bigSep Finset.univ fun p : Dev nD => tok p 0 c) ∗ tok c 1 0 ∗ tok c 2 0 ∗ tok c 3 0 ∗ tok (σ c) 4 0)

omit [FloatOps F] in
/-- Of a cell's tokens, the one named by device 0. -/
theorem tok_zero (c : Dev nD) (k : Fin 5) : (bigSep Finset.univ fun d : Dev nD => (tok c k d : sProp 𝕄)) ⊢ tok c k 0 :=
  bigSep_elim (Finset.mem_univ 0)

omit [FloatOps F] in
/-- The tokens change hands: those of the barrier cells to the devices that signal, those of the receive cells along `σ`. -/
theorem toks_dealt : (bigSep Finset.univ fun c : Dev nD => (toks c : sProp 𝕄)) ⊢ bigSep Finset.univ fun c : Dev nD => payToks σ c := by
  have h : (bigSep Finset.univ fun c : Dev nD => (toks c : sProp 𝕄)) ⊢ bigSep Finset.univ fun c : Dev nD =>
      iprop((bigSep Finset.univ fun d : Dev nD => tok c 0 d) ∗ tok c 1 0 ∗ tok c 2 0 ∗ tok c 3 0 ∗ tok c 4 0) :=
    bigSep_mono fun c _ => show (toks c : sProp 𝕄) ⊢ _ from by
      unfold toks; rw [bigSep_five]
      exact BIClass.sep_mono .rfl (BIClass.sep_mono (tok_zero c 1) (BIClass.sep_mono (tok_zero c 2) (BIClass.sep_mono (tok_zero c 3) (tok_zero c 4))))
  refine h.trans (Entails.of_eq ?_)
  unfold payToks
  simp only [bigSep_sep']
  rw [bigSep_univ_comm (fun c d : Dev nD => (tok c 0 d : sProp 𝕄)), bigSep_univ_equiv σ (fun c : Dev nD => (tok c 4 0 : sProp 𝕄))]

theorem regroup :
    (bigSep Finset.univ fun c : Dev nD => iprop((bigSep Finset.univ fun k => iprop(∃ κ : ℕ, cellInv ER (sched m σ) κ (cell c k)))
          ∗ positions c ∗ toks c) : sProp 𝕄)
      ⊢ bigSep Finset.univ (G' m σ) := by
  unfold positions
  rw [bigSep_sep', bigSep_sep', ← bigSep_univ_prod (fun ck : Dev nD × Fin 5 => iprop(∃ κ : ℕ, cellInv ER (sched m σ) κ (cell ck.1 ck.2))),
    bigSep_congr (s := Finset.univ) (fun (c : Dev nD) _ => bigSep_sep' Finset.univ (fun k : Fin 5 => (atPos ER (cell c k) 0 ∅ 0 : sProp 𝕄)) (fun k => reached ER (cell c k) 0)),
    bigSep_sep', ← bigSep_univ_prod (fun ck : Dev nD × Fin 5 => (reached ER (cell ck.1 ck.2) 0 : sProp 𝕄))]
  iintro ⟨HI, ⟨Hat, #HR⟩, Htok⟩
  ihave HK := (BI.bigSep_exists_pi Finset.univ (fun (ck : Dev nD × Fin 5) (κ : ℕ) => (cellInv ER (sched m σ) κ (cell ck.1 ck.2) : sProp 𝕄))) $$ HI
  icases HK with ⟨%K, #HI⟩
  ihave Htk := (toks_dealt (F := F) σ) $$ Htok
  iapply (bigSep_with_persistent (R := records m σ K) (Φ := own σ) fun c _ => show iprop(records m σ K ∗ own σ c) ⊢ G' m σ c from by
    unfold G'; iintro H; iexists K; iexact H)
  isplitr
  · unfold records; isplitl; · iexact HI
    iexact HR
  · iapply (Entails.of_eq (bigSep_sep' Finset.univ (fun c : Dev nD => bigSep Finset.univ fun k : Fin 5 => (atPos ER (cell c k) 0 ∅ 0 : sProp 𝕄)) (payToks σ)).symm)
    isplitl [Hat] <;> iassumption

/-- The set-up of all devices at once. -/
theorem glob : (bigSep Finset.univ fun c => iprop(Pipeline.ownSems0 (Ix := Unit) (Name := ℕ) (U := UU) (Lvl := ℕ) (Val := Elt F) (τ := τ) osem c ∗ unscopedSems0 c ∗ G m σ c) : sProp 𝕄)
    ⊢ |={Set.univ}=> bigSep Finset.univ (G' m σ) :=
  ((bigSep_mono fun c _ => core_alloc m σ c).trans (bigSep_fupd _ _)).trans (BI.fupd_mono (regroup m σ))

/-! ## The launch's credit -/

theorem O₀_apply (d : Dev nD) (g : GSem nD τ sig) :
    O₀ σ d g () = tallyAt (cell (σ d) 4) () N g () + ∑ p : Dev nD, tallyAt (cell p 0) () 1 g () := by
  unfold O₀ owed
  rw [Pi.add_apply, Finsupp.add_apply, Finset.sum_apply, Finsupp.finset_sum_apply]

/-- Every device owes one unit to every barrier cell; -/
theorem owed_bar (d c : Dev nD) : O₀ σ d (cell c 0) () = 1 := by
  rw [O₀_apply, tallyAt_ne_cell (fun h => absurd (cell_inj h).2 (by decide)), Finsupp.zero_apply, Nat.zero_add,
    Finset.sum_eq_single c (fun p _ hp => by rw [tallyAt_ne_cell fun h => hp (cell_inj h).1.symm]; rfl) (fun h => absurd (Finset.mem_univ c) h),
    tallyAt_apply, if_pos ⟨rfl, rfl⟩]
/-- and its copy's credit to the receive cell of the device it writes. -/
theorem owed_recv (d c : Dev nD) : O₀ σ d (cell c 4) () = if d = σ.symm c then N else 0 := by
  rw [O₀_apply, Finset.sum_eq_zero fun p _ => by rw [tallyAt_ne_cell fun h => absurd (cell_inj h).2 (by decide)]; rfl, Nat.add_zero, tallyAt_apply]
  by_cases h : d = σ.symm c
  · subst h; rw [if_pos rfl, Equiv.apply_symm_apply, if_pos ⟨rfl, rfl⟩]
  · rw [if_neg h, if_neg fun h' => h (by rw [(cell_inj h'.1).1, Equiv.symm_apply_apply])]

theorem launch_bar (c : Dev nD) :
    tallyOn (cell c 0) (launchCredit (Pipeline.owing (O₀ σ)) 0 (cell c 0)) = (tallyAt (cell c 0) () 16 : CellTallies nD τ sig Unit) := by
  unfold tallyAt; refine congrArg _ (Finsupp.ext fun u => ?_); cases u
  rw [Pipeline.launchCredit_owing, Finsupp.single_eq_same, Finset.sum_congr rfl fun d _ => owed_bar σ d c]; rfl
theorem launch_recv (c : Dev nD) :
    tallyOn (cell c 4) (launchCredit (Pipeline.owing (O₀ σ)) 0 (cell c 4)) = (tallyAt (cell c 4) () N : CellTallies nD τ sig Unit) := by
  unfold tallyAt; refine congrArg _ (Finsupp.ext fun u => ?_); cases u
  rw [Pipeline.launchCredit_owing, Finsupp.single_eq_same, Finset.sum_congr rfl fun d _ => owed_recv σ d c,
    Finset.sum_ite_eq' Finset.univ (σ.symm c) fun _ => N, if_pos (Finset.mem_univ _)]

omit [FloatOps F] in
theorem creds (c : Dev nD) :
    (Pipeline.launchCred (O₀ σ) c : sProp 𝕄) ⊢ iprop(cred (tallyAt (cell c 0) () 16) ∗ cred (tallyAt (cell c 4) () N)) := by
  unfold Pipeline.launchCred
  rw [bigSep_univ_at _ (csem 0), launch_bar, ← launch_recv σ c]
  exact BIClass.sep_mono .rfl (bigSep_elim (Finset.mem_erase.mpr ⟨fun h => absurd (csem_injective h) (by decide), Finset.mem_univ _⟩))

end Cert.PermuteProof

end
-- ==== Proof.Run.lean ====
/-
# The run

For any float values and any permutation `σ` that every device's table entry names: every weakly fair execution of the
kernel on the sixteen devices terminates; device `c`'s result array then holds the block that device `σ⁻¹ c` sent, its
arguments are unchanged, and every semaphore counter is zero.
-/
module

public import proofs.«01_k».proof.Proof.Deal

@[expose] public section

set_option maxRecDepth 16384

noncomputable section

namespace Cert.PermuteProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (σ : Equiv.Perm (Dev nD))

/-- The launch's holdings of device `c` are what the kernel starts from. -/
theorem start_intro (c : Dev nD) :
    iprop(Pipeline.unscopedRestP Pipeline.Prefetch.none cfg0.spec c (fun b => m ((c : Thread nD τ).loc b)) ∗ levAts L lv
        ∗ Pipeline.launchCred (O₀ σ) c ∗ prngReg c (ρ c) ∗ G' m σ c)
      ⊢ |={Set.univ}=> iprop(start m σ c ∗ emp) := by
  rw [Pipeline.unscopedRestP_none, unscopedRest0_eq]
  iintro ⟨Harr, Hlev, Hcr, -, HG⟩
  ihave Hc := (creds (F := F) σ c) $$ Hcr
  imodintro
  unfold start G'
  isplitl
  · isplitl [HG]; · iexact HG
    isplitl [Hc]; · iexact Hc
    isplitl [Hlev]; · iexact Hlev
    unfold arrays; iexact Harr
  · iempintro

/-- With the scratch buffers it is the obligation's first assertion; -/
theorem enter (c : Dev nD) :
    iprop(start m σ c ∗ Pipeline.prefHeld Pipeline.Prefetch.none c (fun _ => fullShare.right) (fun k => k.elim0) ∗ Pipeline.scopedRest cfg0.spec c)
      ⊢ (dats m σ 0 c).Φ 0 := by
  rw [show (dats m σ 0 c).Φ 0 = Φ₀ m σ c from rfl, scopedRest0_eq]
  unfold Φ₀ scratch
  iintro ⟨Hs, -, Hr⟩
  isplitl [Hs]; · iexact Hs
  iexact Hr

/-- the obligation's last assertion gives back the counters and the scratch buffers, and keeps the three arrays. -/
theorem leave (c : Dev nD) :
    (dats m σ 0 c).Φ (Fin.last cfg0.N)
      ⊢ iprop((results m σ c ∗ unscopedSems0 c) ∗ Pipeline.ownSems0 osem c ∗ Pipeline.scopedRest cfg0.spec c) := by
  rw [show (dats m σ 0 c).Φ (Fin.last cfg0.N) = Φ₁ m σ c from rfl, scopedRest0_eq]
  unfold Φ₁ scratch
  rw [sems0_eq]
  iintro ⟨Hr, Hs, Hu, Ho⟩
  isplitl [Hr Hu]; · isplitl [Hr] <;> iassumption
  isplitl [Ho]; · iexact Ho
  iexact Hs

/-- What the final state of device `c` is read for. -/
def Final (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = sentBy m (σ.symm c))
  ∧ ∀ sm : SemLoc sig, sm.isScoped .tc = false → s.sem ((c.tc : Thread nD τ), sm) = 0

/-- A buffer held whole has in memory what it is held at. -/
theorem read_whole (s' : Phys nD τ sig (Elt F)) (ℓ : Loc nD τ sig) (f : Buf (Elt F) ℓ) :
    iprop((ℓ ↦{fullShare} f) ∗ SI s') ⊢ (iprop(⌜s'.mem.mem ℓ = f⌝) : sProp 𝕄) := by
  iintro ⟨Hp, HSI⟩
  icombine HSI Hp gives %h
  ipureintro
  exact Buf.eq_of_forall_mem_univ h

theorem read_final (c : Dev nD) (s' : Phys nD τ sig (Elt F)) :
    iprop((results m σ c ∗ unscopedSems0 c) ∗ emp ∗ SI s') ⊢ (|={Set.univ}=> iprop(⌜Final m σ c s'.mem⌝ ∗ SI s') : sProp 𝕄) := by
  unfold results
  iintro ⟨⟨⟨H0, H1, H2⟩, Hu⟩, -, HSI⟩
  ihave %h0 := (read_whole (F := F) s' _ _) $$ [H0 HSI]
  · isplitl [H0] <;> iassumption
  ihave %h1 := (read_whole (F := F) s' _ _) $$ [H1 HSI]
  · isplitl [H1] <;> iassumption
  ihave %h2 := (read_whole (F := F) s' _ _) $$ [H2 HSI]
  · isplitl [H2] <;> iassumption
  imod (Pipeline.unscopedSems0_read (X := unscopedSems0 c) (c := c) fupd_intro s') $$ [Hu HSI] with ⟨%hs, HSI⟩
  · isplitl [Hu] <;> iassumption
  imodintro
  isplitr; · ipureintro; exact ⟨⟨h0, h1, h2⟩, hs⟩
  iexact HSI

/-- Every weakly fair execution terminates with the arguments unchanged, each device's result the block sent to it,
    and every counter at zero. -/
theorem run_main (hN : Names m σ) : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1) = sentBy m (σ.symm c)) ∧ r.2.sem = fun _ => 0) :=
  Pipeline.θ_run_region_owing_glob_pf (fun p => (cfgs p).toPCfg) (fun p => (cfgs p).toPCfg_adm) (dats m σ) () cellOf_inj (0 : Fin 1)
    winFacts0.to₀ ownSemFacts (Pipeline.PreFacts.none _) EP defs₀ 𝒱₀ m ρ main
    (hmain := fun _ => rfl)
    (hbody := body_obligation m σ hN) (hne := fun w => w.elim0) (harr := arr_whole0) (hstage := stage_whole0)
    (hshare := fun _ w => w.elim0) (hdistinct := winFacts0.arr_inj)
    (O₀ := O₀ σ) (howed₀ := fun _ => rfl) (howedN := fun _ => rfl)
    (L := L) (lv := lv) (hL := L_of_ne) (hwaits := fun c => Pipeline.cellsWaits_intro cfgs (dats m σ) () 0 c fun w => w.elim0)
    (G := G m σ) (G' := G' m σ) (u₀ := u₀)
    (hu₀ := by
      unfold u₀
      iintro Hu
      ihave H := (ownU_pair _ _) $$ Hu
      icases H with ⟨HP, HX⟩
      imod (fund_all m σ) $$ HX with HG
      imodintro
      isplitl [HP] <;> iassumption)
    (hglob := glob m σ)
    (hA := fun _ w => w.elim0) (hpf := fun _ k => k.elim0)
    (X := start m σ) (Y := fun c => iprop(results m σ c ∗ unscopedSems0 c)) (Z := fun _ => iprop(emp))
    (hX := start_intro m ρ σ) (hin := enter m σ) (hout := leave m σ)
    (QY := Final m σ) (hY := read_final m σ)
    (hQ := fun _ h hs => ⟨fun c => (h c).2.2.1, sem_eq_zero hs fun c => (h c).2.2.2⟩)

end Cert.PermuteProof

end
-- ==== Proof.Table.lean ====
/-
# The table

The tables of the claims are `arange(16)` rolled by `s`: entry `i` is `i - s` modulo sixteen. This module reads such a table
out of the printed predicate, and computes what the reference makes of any table that lists a permutation: its argsort lists
the inverse permutation.
-/
module

public import Idealize.ShloMosaic.Lib.ReduceAll
public import Idealize.ShloMosaic.Lib.ValueIdxCore
public import Idealize.ShloMosaic.Lib.SortNet.HostSort

@[expose] public section

noncomputable section

namespace Cert.PermuteProof

open Idealize.ShloMosaic Idealize.ShloMosaic.ValueIdx

/-- The table `T` lists the permutation `π`. -/
def Lists (T : IVec ⟨1, ![16]⟩ 32) (π : Equiv.Perm (Fin 16)) : Prop := ∀ i : Fin 16, T (ix1 i) = BitVec.ofNat 32 (π i).val

/-- The permutation of the table rolled by `s`. -/
def rolled (s : Fin 16) : Equiv.Perm (Fin 16) where
  toFun i := ⟨(i.val + (16 - s.val)) % 16, Nat.mod_lt _ (by decide)⟩
  invFun i := ⟨(i.val + s.val) % 16, Nat.mod_lt _ (by decide)⟩
  left_inv i := Fin.ext (by have := i.isLt; have := s.isLt; dsimp only; omega)
  right_inv i := Fin.ext (by have := i.isLt; have := s.isLt; dsimp only; omega)

/-- The predicate's word at entry `i`, with constant `16 - s`, is the rolled entry. -/
theorem rolled_word : ∀ s i : Fin 16,
    IntOp.remsi .host (IntOp.addi (BitVec.ofNat 32 i.val) (BitVec.ofNat 32 (16 - s.val))) 16#32 = BitVec.ofNat 32 (rolled s i).val := by
  decide

/-- The predicate, read: a table that satisfies it with constant `16 - s` lists the permutation rolled by `s`. -/
theorem lists_of_pred (s : Fin 16) (T : IVec ⟨1, ![16]⟩ 32) (hb : (⟨0, ![]⟩ : Shape).BroadcastsInDim ⟨1, ![16]⟩ ![])
    (hr : (⟨1, ![16]⟩ : Shape).ReducesTo [0] ⟨0, ![]⟩) (h0 : 0 < (⟨0, ![]⟩ : Shape).numel)
    (h : Host.reduce IntOp.andi
        (cmpi .eq T (Host.remsi (addi (iotaInDim ⟨1, ![16]⟩ 32 0) (broadcastInDim ⟨1, ![16]⟩ ![] hb (constantI ⟨0, ![]⟩ 32 (BitVec.ofNat 32 (16 - s.val)))))
          (broadcastInDim ⟨1, ![16]⟩ ![] hb (constantI ⟨0, ![]⟩ 32 16#32))))
        (constantI ⟨0, ![]⟩ 1 1#1) hr h0 = fun _ => 1#1) : Lists T (rolled s) := fun i => by
  haveI : Subsingleton (⟨0, ![]⟩ : Shape).Idx := ⟨fun a b => funext fun d => d.elim0⟩
  exact (IntOp.cmpi_eq.1 (Host.reduce_andi_all _ _ hr h0 ix0 (congrFun h ix0) (ix1 i))).trans (rolled_word s i)

/-! ## Its argsort -/

/-- Words below sixteen compare, signed, as the numbers they are. -/
theorem slt_words : ∀ a b : Fin 16, (IntOp.cmpi .slt (BitVec.ofNat 32 a.val) (BitVec.ofNat 32 b.val) == 1#1) = decide (a.val < b.val) := by
  decide

/-- The stable sort of the positions by `π` puts at place `k` the position `π⁻¹ k`. -/
theorem sortedFrom_perm (π : Equiv.Perm (Fin 16)) (k : Fin 16) :
    sortedFrom (fun a b => decide ((π a).val < (π b).val)) k = π.symm k := by
  have hperm : ((List.finRange 16).map π.symm).Perm (List.finRange 16) :=
    (List.perm_ext_iff_of_nodup ((List.nodup_finRange 16).map π.symm.injective) (List.nodup_finRange 16)).mpr fun a =>
      ⟨fun _ => List.mem_finRange a, fun _ => List.mem_map.mpr ⟨π a, List.mem_finRange _, π.symm_apply_apply a⟩⟩
  have hs : ((List.finRange 16).map π.symm).Pairwise fun a b => (π a).val < (π b).val :=
    List.pairwise_map.mpr ((List.pairwise_lt_finRange 16).imp fun {a b} h => by
      rw [π.apply_symm_apply, π.apply_symm_apply]; exact h)
  refine (SortNet.sortedFrom_eq_getElem_of_pairwise_lt (fun a => (π a).val) _ hperm hs k (by simp)).trans ?_
  simp

/-- The argsort, a stable sort of (table, iota) by the table's words, signed: of a table that lists `π` it lists `π⁻¹`. -/
theorem argsort_lists (π : Equiv.Perm (Fin 16)) (T : IVec ⟨1, ![16]⟩ 32) (hT : Lists T π)
    (cmp : BitVec 32 × BitVec 32 → BitVec 32 × BitVec 32 → BitVec 1) (hc : ∀ l r, cmp l r = IntOp.cmpi .slt l.1 r.1) :
    Lists (Host.sort2 ⟨1, ![16]⟩ 0 cmp T (iotaInDim ⟨1, ![16]⟩ 32 0)).2 π.symm := fun k => by
  have hal (j : (⟨1, ![16]⟩ : Shape).Idx) (a : Fin 16) : j.along (⟨0, Nat.zero_lt_one⟩ : Fin 1) a = ix1 a := by
    funext d; obtain rfl : d = 0 := Subsingleton.elim _ _; exact Function.update_self ..
  have hbef : (fun a b : Fin 16 => cmp (T ((ix1 k).along (⟨0, Nat.zero_lt_one⟩ : Fin 1) a), iotaInDim ⟨1, ![16]⟩ 32 0 ((ix1 k).along (⟨0, Nat.zero_lt_one⟩ : Fin 1) a))
        (T ((ix1 k).along (⟨0, Nat.zero_lt_one⟩ : Fin 1) b), iotaInDim ⟨1, ![16]⟩ 32 0 ((ix1 k).along (⟨0, Nat.zero_lt_one⟩ : Fin 1) b)) == 1#1)
      = fun a b => decide ((π a).val < (π b).val) := by
    funext a b
    rw [hc, hal, hal]
    show (IntOp.cmpi .slt (T (ix1 a)) (T (ix1 b)) == 1#1) = _
    rw [hT, hT, slt_words]
  have hsort : (Host.sort2 ⟨1, ![16]⟩ 0 cmp T (iotaInDim ⟨1, ![16]⟩ 32 0)).2 (ix1 k)
      = iotaInDim ⟨1, ![16]⟩ 32 0 ((ix1 k).along (⟨0, Nat.zero_lt_one⟩ : Fin 1) (sortedFrom (n := 16)
          (fun a b : Fin 16 => cmp (T ((ix1 k).along (⟨0, Nat.zero_lt_one⟩ : Fin 1) a), iotaInDim ⟨1, ![16]⟩ 32 0 ((ix1 k).along (⟨0, Nat.zero_lt_one⟩ : Fin 1) a))
            (T ((ix1 k).along (⟨0, Nat.zero_lt_one⟩ : Fin 1) b), iotaInDim ⟨1, ![16]⟩ 32 0 ((ix1 k).along (⟨0, Nat.zero_lt_one⟩ : Fin 1) b)) == 1#1) k)) := rfl
  rw [hsort, hbef, sortedFrom_perm, hal]
  rfl

/-- The reference's wrap of negative indices changes no word below sixteen. -/
theorem wrap_word : ∀ a : Fin 16,
    (if IntOp.cmpi .slt (BitVec.ofNat 32 a.val) 0#32 = 1#1 then IntOp.addi (BitVec.ofNat 32 a.val) 16#32 else BitVec.ofNat 32 a.val) = BitVec.ofNat 32 a.val := by
  decide

/-- A word below sixteen is the number it is, as a start index. -/
theorem start_word : ∀ a : Fin 16, min (BitVec.ofNat 32 a.val).toInt.toNat 15 = a.val := by
  decide

end Cert.PermuteProof

end
-- ==== Proof.Value.lean ====
/-
# The value

The reference's result, cut into the sixteen devices' blocks: for a table that lists `π`, block `c` is block `π⁻¹ c` of `x`
rounded to bf16, which is what the kernel sends to device `c`.
-/
module

public import proofs.«01_k».proof.Proof.Table
public import proofs.«01_k».proof.Proof.Gen.ReferenceIdeal.Run
public import proofs.«01_k».proof.Proof.Gen.KernelIdeal.Skeleton
public import Idealize.ShloMosaic.Lib.Layout
public import Idealize.ShloMosaic.Lib.Pipeline.Value

@[expose] public section

noncomputable section

namespace Cert.PermuteProof

open Cert.ReferenceIdeal Cert.ReferenceIdeal.Gen
open Idealize.ShloMosaic Idealize.ShloMosaic.ValueIdx

variable {F : FTy → Type} [FloatOps F]

/-- The reference's gather takes whole rows: where the start index of row `r` is `b`, row `r` of the result is row `b`. -/
theorem gather_rows {α : Type} (x : S16x256x256.Idx → α) (idx : IVec S16x1 32) (r b : Fin 16) (p q : Fin 256)
    (hb : idx (ix2 r 0) = BitVec.ofNat 32 b.val) :
    Host.gather gather_S16x256x256_S16x1_S16x256x256_12_0_n_n_0_1_1256256 x idx (ix3 r p q) = x (ix3 b p q) := by
  set d := gather_S16x256x256_S16x1_S16x256x256_12_0_n_n_0_1_1256256 with hd
  have hk0 : (0 : Fin 3) ∉ d.sKept := by decide
  have hk1 : (1 : Fin 3) ∈ d.sKept := by decide
  have hk2 : (2 : Fin 3) ∈ d.sKept := by decide
  have hm0 : (0 : Fin 3) ∈ d.startIndexMap := by decide
  have hm1 : (1 : Fin 3) ∉ d.startIndexMap := by decide
  have hm2 : (2 : Fin 3) ∉ d.startIndexMap := by decide
  have ho1 : d.offsetDims[d.sKept.idxOf 1]? = some (1 : Fin 3) := by decide
  have ho2 : d.offsetDims[d.sKept.idxOf 2]? = some (2 : Fin 3) := by decide
  have at_eq (k l : Fin 3) (h : k = l) : (ix3 r p q k).val = (ix3 r p q l).val := by subst h; rfl
  unfold Host.gather
  refine congrArg x (funext fun a => Fin.ext ?_)
  match a with
  | 0 =>
    show d.start (ix3 r p q) idx 0 + d.batchCoord (ix3 r p q) 0 + d.offCoord (ix3 r p q) 0 = b.val
    rw [d.batchCoord_eq_zero _ _ List.not_mem_nil, d.offCoord_eq_zero _ _ hk0]
    unfold GatherDims.start
    rw [dif_pos hm0]
    have hsi : d.siIdx (ix3 r p q) ⟨d.startIndexMap.idxOf 0, List.idxOf_lt_length_iff.2 hm0⟩ = ix2 r 0 := by
      funext e
      refine Fin.ext ?_
      match e with
      | 0 => exact at_eq _ 0 (by decide)
      | 1 => rfl
    rw [hsi, hb]
    exact start_word b
  | 1 =>
    show d.start (ix3 r p q) idx 1 + d.batchCoord (ix3 r p q) 1 + d.offCoord (ix3 r p q) 1 = p.val
    rw [d.batchCoord_eq_zero _ _ List.not_mem_nil]
    unfold GatherDims.start GatherDims.offCoord
    rw [dif_neg hm1, dif_pos hk1, Nat.zero_add]
    exact at_eq _ 1 (List.getElem?_eq_some_iff.mp ho1).2
  | 2 =>
    show d.start (ix3 r p q) idx 2 + d.batchCoord (ix3 r p q) 2 + d.offCoord (ix3 r p q) 2 = q.val
    rw [d.batchCoord_eq_zero _ _ List.not_mem_nil]
    unfold GatherDims.start GatherDims.offCoord
    rw [dif_neg hm2, dif_pos hk2, Nat.zero_add]
    exact at_eq _ 2 (List.getElem?_eq_some_iff.mp ho2).2

/-- The reference's wrap of negative indices, and its reshape of the index list to a column. -/
def wrapped (v : IVec S16 32) : IVec S16x1 32 :=
  broadcastInDim S16x1 ![0] bcast_S16_S16x1_0 (select (cmpi .slt v (broadcastInDim S16 ![] bcast_S_S16 (constantI S_ 32 0#32)))
    (addi v (broadcastInDim S16 ![] bcast_S_S16 (constantI S_ 32 16#32))) v)

/-- The reference's start indices: its argsort of the table, wrapped. -/
def starts (T : IVec S16 32) : IVec S16x1 32 := wrapped (Host.sort2 S16 0 comparator_i32_i32_d0 T (iotaInDim S16 32 0)).2

/-- The reference's result. -/
def refOut (X : FVec F S16x256x256 .f32) (T : IVec S16 32) : FVec F S16x256x256 .bf16 :=
  truncf .bf16 (Host.gather gather_S16x256x256_S16x1_S16x256x256_12_0_n_n_0_1_1256256 X (starts T)) bitsLt_bf16_f32

/-- Entry `r` of the wrapped column is entry `r` of the list, wrapped. -/
theorem wrapped_apply (v : IVec S16 32) (r : Fin 16) :
    wrapped v (ix2 r 0) = if IntOp.cmpi .slt (v (ix1 r)) 0#32 = 1#1 then IntOp.addi (v (ix1 r)) 16#32 else v (ix1 r) := by
  unfold wrapped broadcastInDim
  have e : (fun a : Fin S16.rank => if h1 : S16.size a = 1 then (⟨0, by omega⟩ : Fin (S16.size a)) else ⟨((ix2 r 0 : S16x1.Idx) (![0] a)).val, by
      obtain rfl : a = 0 := Subsingleton.elim _ _; exact r.isLt⟩) = (ix1 r : S16.Idx) := by
    funext a
    obtain rfl : a = 0 := Subsingleton.elim _ _
    rw [dif_neg (by decide)]
    rfl
  exact congrArg (fun j => if IntOp.cmpi .slt (v j) 0#32 = 1#1 then IntOp.addi (v j) 16#32 else v j) e

/-- Start index `r` of a table that lists `π` is `π⁻¹ r`. -/
theorem starts_word (π : Equiv.Perm (Fin 16)) (T : IVec S16 32) (hT : Lists T π) (r : Fin 16) :
    starts T (ix2 r 0) = BitVec.ofNat 32 (π.symm r).val := by
  unfold starts
  rw [wrapped_apply, argsort_lists π T hT comparator_i32_i32_d0 (fun _ _ => rfl) r, wrap_word]

/-- An index of block `c` is row `c` of the whole array. -/
theorem block_idx (h : Layout.Tiles ⟨3, ![1, 256, 256]⟩ ⟨3, ![16, 256, 256]⟩ 0 16) (c : Fin 16) (i : (⟨3, ![1, 256, 256]⟩ : Shape).Idx) :
    h.idx c i = ix3 c (i 1) (i 2) := by
  have h0 : (i 0).val = 0 := Nat.lt_one_iff.mp (i 0).isLt
  funext a
  refine Fin.ext ?_
  match a with
  | ⟨0, _⟩ => show c.val * 1 + (i 0).val = c.val; omega
  | ⟨1, _⟩ => rfl
  | ⟨2, _⟩ => rfl

/-- The kernel's payload is its operand rounded: its reshape is to the same shape. -/
theorem pay_eq (v : FVec F ⟨3, ![1, 256, 256]⟩ .f32) : Cert.KernelIdeal.Gen.k0_pay1 v = truncf .bf16 v Cert.KernelIdeal.Gen.bitsLt_bf16_f32 :=
  shapeCast_self _ _

/-- Block `c` of the reference's result is what the kernel makes of block `π⁻¹ c` of `x`. -/
theorem block_refOut (π : Equiv.Perm (Fin 16)) (X : FVec F S16x256x256 .f32) (T : IVec S16 32) (hT : Lists T π) (c : Fin 16) :
    Layout.block ⟨3, ![1, 256, 256]⟩ ⟨3, ![16, 256, 256]⟩ 0 16 c (refOut X T)
      = Cert.KernelIdeal.Gen.k0_pay1 (Layout.block ⟨3, ![1, 256, 256]⟩ ⟨3, ![16, 256, 256]⟩ 0 16 (π.symm c) X) := by
  rw [pay_eq]
  funext i
  rw [Layout.block_apply, block_idx]
  refine congrArg (FloatOps.truncf .bf16 bitsLt_bf16_f32) ?_
  exact (gather_rows X (starts T) c (π.symm c) (i 1) (i 2) (starts_word π T hT c)).trans (congrArg X (block_idx _ _ _).symm)

end Cert.PermuteProof

end
-- ==== Proof.Claims.lean ====
/-
# The claims, for any table

Each claim once, for a permutation `π` that every device's table lists; `Proof.lean` reads `π` out of each claim's precondition.
-/
module

public import proofs.«01_k».proof.Defs
public import proofs.«01_k».proof.Proof.Gen.Kernel
public import proofs.«01_k».proof.Proof.Run
public import proofs.«01_k».proof.Proof.Value

@[expose] public section

noncomputable section

namespace Cert.PermuteProof

open Idealize.ShloMosaic Idealize.ShloMosaic.TcCoe Idealize.ShloMosaic.ValueIdx Idealize.SL.Sem

/-- Device `c` sends to the device its own table entry names: a table that lists `π` names `π c`. -/
theorem names_of_lists {F : FTy → Type} [FloatOps F] (m : (ℓ : Loc KernelIdeal.nD KernelIdeal.τ KernelIdeal.sig) → Buf (Elt F) ℓ)
    (π : Equiv.Perm (Fin 16)) (hT : ∀ c : Dev KernelIdeal.nD, Lists (tableOf m c) π) : Names m π := fun c => by
  have hw : wordAt c = (ix1 c : KernelIdeal.S16.Idx) := by
    funext a
    obtain rfl : a = 0 := Subsingleton.elim _ _
    rfl
  rw [hw]
  exact hT c c

/-- The frame of the kernel over real numbers. -/
theorem frame_ideal (π : Equiv.Perm (Fin 16)) (m : (ℓ : Loc KernelIdeal.nD KernelIdeal.τ KernelIdeal.sig) → Buf (Elt Ideal) ℓ)
    (g : Dev KernelIdeal.nD → PrngReg) (hT : ∀ c : Dev KernelIdeal.nD, Lists (m ((c : Thread KernelIdeal.nD KernelIdeal.τ).loc KernelIdeal.main_arg1)) π) :
    θ_run (KernelIdeal.defs (F := Ideal)) (onTc (τ := KernelIdeal.τ) (KernelIdeal.main (F := Ideal))) ⟨m, fun _ => 0, g⟩ (fun r =>
      (∀ c : Dev KernelIdeal.nD,
        r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1))
      ∧ r.2.sem = fun _ => 0) :=
  (θ_run KernelIdeal.defs _ _).mono (fun _ h => ⟨fun c => ⟨(h.1 c).1, (h.1 c).2.1⟩, h.2⟩) (run_main m g π (names_of_lists m π hT))

/-- The frame of the kernel as printed: its text is the same, so the one run serves, at the hardware's words. -/
theorem frame_kernel (π : Equiv.Perm (Fin 16)) (m : (ℓ : Loc Kernel.nD Kernel.τ Kernel.sig) → Buf (Elt Bits) ℓ)
    (g : Dev Kernel.nD → PrngReg) (hT : ∀ c : Dev Kernel.nD, Lists (m ((c : Thread Kernel.nD Kernel.τ).loc Kernel.main_arg1)) π) :
    θ_run (Kernel.defs (F := Bits)) (onTc (τ := Kernel.τ) (Kernel.main (F := Bits))) ⟨m, fun _ => 0, g⟩ (fun r =>
      (∀ c : Dev Kernel.nD,
        r.2.mem ((c.tc : Thread Kernel.nD Kernel.τ).loc Kernel.main_arg0) = m ((c.tc : Thread Kernel.nD Kernel.τ).loc Kernel.main_arg0)
        ∧ r.2.mem ((c.tc : Thread Kernel.nD Kernel.τ).loc Kernel.main_arg1) = m ((c.tc : Thread Kernel.nD Kernel.τ).loc Kernel.main_arg1))
      ∧ r.2.sem = fun _ => 0) :=
  (θ_run KernelIdeal.defs _ _).mono (fun _ h => ⟨fun c => ⟨(h.1 c).1, (h.1 c).2.1⟩, h.2⟩)
    (run_main (F := Bits) m g π (names_of_lists (F := Bits) m π hT))

/-- The frame of the reference: it runs from any memory, its arguments end unchanged, and it has no semaphore. -/
theorem frame_reference (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal))) ⟨m, fun _ => 0, g⟩ (fun r =>
      (∀ c : Dev ReferenceIdeal.nD,
        r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1))
      ∧ r.2.sem = fun _ => 0) :=
  (θ_run ReferenceIdeal.defs _ _).mono (fun r h => ⟨fun c => (h c).2, sem_eq_zero_of_no_sems (by decide) r.2⟩) (ReferenceIdeal.Value.run m g)

/-- The value: from blocks of the reference's arguments, device `c` ends with block `c` of the reference's result. -/
theorem value_ideal (π : Equiv.Perm (Fin 16)) (m : (ℓ : Loc KernelIdeal.nD KernelIdeal.τ KernelIdeal.sig) → Buf (Elt Ideal) ℓ)
    (g : Dev KernelIdeal.nD → PrngReg) (m' : (ℓ : Loc ReferenceIdeal.nD ReferenceIdeal.τ ReferenceIdeal.sig) → Buf (Elt Ideal) ℓ)
    (g' : Dev ReferenceIdeal.nD → PrngReg) (hT : ∀ c : Dev KernelIdeal.nD, Lists (m ((c : Thread KernelIdeal.nD KernelIdeal.τ).loc KernelIdeal.main_arg1)) π)
    (hm : ∀ c : Dev KernelIdeal.nD,
      m ((c.tc : Thread KernelIdeal.nD KernelIdeal.τ).loc KernelIdeal.main_arg0) = Layout.block ⟨3, ![1, 256, 256]⟩ ⟨3, ![16, 256, 256]⟩ 0 16 c (m' (((0 : Dev ReferenceIdeal.nD).tc : Thread ReferenceIdeal.nD ReferenceIdeal.τ).loc ReferenceIdeal.main_arg0))
      ∧ m ((c.tc : Thread KernelIdeal.nD KernelIdeal.τ).loc KernelIdeal.main_arg1) = m' (((0 : Dev ReferenceIdeal.nD).tc : Thread ReferenceIdeal.nD ReferenceIdeal.τ).loc ReferenceIdeal.main_arg1)) :
    ∃ (v0 : Buf (Elt Ideal) (((0 : Dev ReferenceIdeal.nD).tc : Thread ReferenceIdeal.nD ReferenceIdeal.τ).loc ReferenceIdeal.main_v8)),
      θ_run (KernelIdeal.defs (F := Ideal)) (onTc (τ := KernelIdeal.τ) (KernelIdeal.main (F := Ideal))) ⟨m, fun _ => 0, g⟩ (fun r => ∀ c : Dev KernelIdeal.nD,
          r.2.mem ((c.tc : Thread KernelIdeal.nD KernelIdeal.τ).loc KernelIdeal.main_v1) = Layout.block ⟨3, ![1, 256, 256]⟩ ⟨3, ![16, 256, 256]⟩ 0 16 c v0
          ∧ r.2.mem ((c.tc : Thread KernelIdeal.nD KernelIdeal.τ).loc KernelIdeal.main_arg0) = m ((c.tc : Thread KernelIdeal.nD KernelIdeal.τ).loc KernelIdeal.main_arg0)
          ∧ r.2.mem ((c.tc : Thread KernelIdeal.nD KernelIdeal.τ).loc KernelIdeal.main_arg1) = m ((c.tc : Thread KernelIdeal.nD KernelIdeal.τ).loc KernelIdeal.main_arg1))
      ∧ θ_run (ReferenceIdeal.defs (F := Ideal)) (onTc (τ := ReferenceIdeal.τ) (ReferenceIdeal.main (F := Ideal))) ⟨m', fun _ => 0, g'⟩ (fun r =>
          r.2.mem (((0 : Dev ReferenceIdeal.nD).tc : Thread ReferenceIdeal.nD ReferenceIdeal.τ).loc ReferenceIdeal.main_v8) = v0
          ∧ r.2.mem (((0 : Dev ReferenceIdeal.nD).tc : Thread ReferenceIdeal.nD ReferenceIdeal.τ).loc ReferenceIdeal.main_arg0) = m' (((0 : Dev ReferenceIdeal.nD).tc : Thread ReferenceIdeal.nD ReferenceIdeal.τ).loc ReferenceIdeal.main_arg0)
          ∧ r.2.mem (((0 : Dev ReferenceIdeal.nD).tc : Thread ReferenceIdeal.nD ReferenceIdeal.τ).loc ReferenceIdeal.main_arg1) = m' (((0 : Dev ReferenceIdeal.nD).tc : Thread ReferenceIdeal.nD ReferenceIdeal.τ).loc ReferenceIdeal.main_arg1)) := by
  have hT' : Lists (m' (((0 : Dev ReferenceIdeal.nD).tc : Thread ReferenceIdeal.nD ReferenceIdeal.τ).loc ReferenceIdeal.main_arg1)) π := (hm 0).2 ▸ hT 0
  refine ⟨refOut (F := Ideal) (m' (((0 : Dev ReferenceIdeal.nD).tc : Thread ReferenceIdeal.nD ReferenceIdeal.τ).loc ReferenceIdeal.main_arg0))
    (m' (((0 : Dev ReferenceIdeal.nD).tc : Thread ReferenceIdeal.nD ReferenceIdeal.τ).loc ReferenceIdeal.main_arg1)), ?_, ?_⟩
  · refine (θ_run KernelIdeal.defs _ _).mono (fun _ h c => ⟨((h.1 c).2.2).trans ?_, (h.1 c).1, (h.1 c).2.1⟩) (run_main m g π (names_of_lists m π hT))
    exact (congrArg KernelIdeal.Gen.k0_pay1 (hm (π.symm c)).1).trans (block_refOut π _ _ hT' c).symm
  · exact (θ_run ReferenceIdeal.defs _ _).mono (fun _ h => ⟨(h 0).1, (h 0).2⟩) (ReferenceIdeal.Value.run m' g')

end Cert.PermuteProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_rolled_by_1_Kernel
public import proofs.«01_k».proof.Proof.Gen.Pre_rolled_by_2_Kernel
public import proofs.«01_k».proof.Proof.Gen.Pre_rolled_by_3_Kernel
public import proofs.«01_k».proof.Proof.Gen.Pre_rolled_by_4_Kernel
public import proofs.«01_k».proof.Proof.Gen.Pre_rolled_by_5_Kernel
public import proofs.«01_k».proof.Proof.Gen.Pre_rolled_by_6_Kernel
public import proofs.«01_k».proof.Proof.Gen.Pre_rolled_by_7_Kernel
public import proofs.«01_k».proof.Proof.Gen.Pre_rolled_by_8_Kernel
public import proofs.«01_k».proof.Proof.Gen.Pre_rolled_by_9_Kernel
public import proofs.«01_k».proof.Proof.Gen.Pre_rolled_by_10_Kernel
public import proofs.«01_k».proof.Proof.Gen.Pre_rolled_by_11_Kernel
public import proofs.«01_k».proof.Proof.Gen.Pre_rolled_by_12_Kernel
public import proofs.«01_k».proof.Proof.Gen.Pre_rolled_by_13_Kernel
public import proofs.«01_k».proof.Proof.Gen.Pre_rolled_by_14_Kernel
public import proofs.«01_k».proof.Proof.Gen.Pre_rolled_by_15_Kernel
public import proofs.«01_k».proof.Proof.Gen.Pre_rolled_by_1_ReferenceIdeal
public import proofs.«01_k».proof.Proof.Gen.Pre_rolled_by_2_ReferenceIdeal
public import proofs.«01_k».proof.Proof.Gen.Pre_rolled_by_3_ReferenceIdeal
public import proofs.«01_k».proof.Proof.Gen.Pre_rolled_by_4_ReferenceIdeal
public import proofs.«01_k».proof.Proof.Gen.Pre_rolled_by_5_ReferenceIdeal
public import proofs.«01_k».proof.Proof.Gen.Pre_rolled_by_6_ReferenceIdeal
public import proofs.«01_k».proof.Proof.Gen.Pre_rolled_by_7_ReferenceIdeal
public import proofs.«01_k».proof.Proof.Gen.Pre_rolled_by_8_ReferenceIdeal
public import proofs.«01_k».proof.Proof.Gen.Pre_rolled_by_9_ReferenceIdeal
public import proofs.«01_k».proof.Proof.Gen.Pre_rolled_by_10_ReferenceIdeal
public import proofs.«01_k».proof.Proof.Gen.Pre_rolled_by_11_ReferenceIdeal
public import proofs.«01_k».proof.Proof.Gen.Pre_rolled_by_12_ReferenceIdeal
public import proofs.«01_k».proof.Proof.Gen.Pre_rolled_by_13_ReferenceIdeal
public import proofs.«01_k».proof.Proof.Gen.Pre_rolled_by_14_ReferenceIdeal
public import proofs.«01_k».proof.Proof.Gen.Pre_rolled_by_15_ReferenceIdeal
public import proofs.«01_k».proof.Proof.Claims
public import Idealize.ShloMosaic.Adequacy
public import Idealize.ShloMosaic.Init

@[expose] public section

noncomputable section

namespace Cert.Proof

open Idealize.ShloMosaic Idealize.SL.Sem Cert.PermuteProof

/-- All the claims: each precondition says of every device's table that it is the roll by its `s`, and the rest is the claim for any
    table, at that roll. -/
theorem claim : Cert.Claim := ⟨Cert.Kernel.Gen.facts, Cert.KernelIdeal.Gen.facts, Cert.ReferenceIdeal.Gen.facts, Cert.Pre_rolled_by_1_Kernel.Gen.facts, Cert.Pre_rolled_by_2_Kernel.Gen.facts, Cert.Pre_rolled_by_3_Kernel.Gen.facts, Cert.Pre_rolled_by_4_Kernel.Gen.facts, Cert.Pre_rolled_by_5_Kernel.Gen.facts, Cert.Pre_rolled_by_6_Kernel.Gen.facts, Cert.Pre_rolled_by_7_Kernel.Gen.facts, Cert.Pre_rolled_by_8_Kernel.Gen.facts, Cert.Pre_rolled_by_9_Kernel.Gen.facts, Cert.Pre_rolled_by_10_Kernel.Gen.facts, Cert.Pre_rolled_by_11_Kernel.Gen.facts, Cert.Pre_rolled_by_12_Kernel.Gen.facts, Cert.Pre_rolled_by_13_Kernel.Gen.facts, Cert.Pre_rolled_by_14_Kernel.Gen.facts, Cert.Pre_rolled_by_15_Kernel.Gen.facts, Cert.Pre_rolled_by_1_ReferenceIdeal.Gen.facts, Cert.Pre_rolled_by_2_ReferenceIdeal.Gen.facts, Cert.Pre_rolled_by_3_ReferenceIdeal.Gen.facts, Cert.Pre_rolled_by_4_ReferenceIdeal.Gen.facts, Cert.Pre_rolled_by_5_ReferenceIdeal.Gen.facts, Cert.Pre_rolled_by_6_ReferenceIdeal.Gen.facts, Cert.Pre_rolled_by_7_ReferenceIdeal.Gen.facts, Cert.Pre_rolled_by_8_ReferenceIdeal.Gen.facts, Cert.Pre_rolled_by_9_ReferenceIdeal.Gen.facts, Cert.Pre_rolled_by_10_ReferenceIdeal.Gen.facts, Cert.Pre_rolled_by_11_ReferenceIdeal.Gen.facts, Cert.Pre_rolled_by_12_ReferenceIdeal.Gen.facts, Cert.Pre_rolled_by_13_ReferenceIdeal.Gen.facts, Cert.Pre_rolled_by_14_ReferenceIdeal.Gen.facts, Cert.Pre_rolled_by_15_ReferenceIdeal.Gen.facts,
    fun m g h => frame_kernel (rolled 1) m g fun c => lists_of_pred 1 _ _ _ _ (h c),
    fun m g h => frame_kernel (rolled 2) m g fun c => lists_of_pred 2 _ _ _ _ (h c),
    fun m g h => frame_kernel (rolled 3) m g fun c => lists_of_pred 3 _ _ _ _ (h c),
    fun m g h => frame_kernel (rolled 4) m g fun c => lists_of_pred 4 _ _ _ _ (h c),
    fun m g h => frame_kernel (rolled 5) m g fun c => lists_of_pred 5 _ _ _ _ (h c),
    fun m g h => frame_kernel (rolled 6) m g fun c => lists_of_pred 6 _ _ _ _ (h c),
    fun m g h => frame_kernel (rolled 7) m g fun c => lists_of_pred 7 _ _ _ _ (h c),
    fun m g h => frame_kernel (rolled 8) m g fun c => lists_of_pred 8 _ _ _ _ (h c),
    fun m g h => frame_kernel (rolled 9) m g fun c => lists_of_pred 9 _ _ _ _ (h c),
    fun m g h => frame_kernel (rolled 10) m g fun c => lists_of_pred 10 _ _ _ _ (h c),
    fun m g h => frame_kernel (rolled 11) m g fun c => lists_of_pred 11 _ _ _ _ (h c),
    fun m g h => frame_kernel (rolled 12) m g fun c => lists_of_pred 12 _ _ _ _ (h c),
    fun m g h => frame_kernel (rolled 13) m g fun c => lists_of_pred 13 _ _ _ _ (h c),
    fun m g h => frame_kernel (rolled 14) m g fun c => lists_of_pred 14 _ _ _ _ (h c),
    fun m g h => frame_kernel (rolled 15) m g fun c => lists_of_pred 15 _ _ _ _ (h c),
    fun m g h => frame_ideal (rolled 1) m g fun c => lists_of_pred 1 _ _ _ _ (h c),
    fun m g h => frame_ideal (rolled 2) m g fun c => lists_of_pred 2 _ _ _ _ (h c),
    fun m g h => frame_ideal (rolled 3) m g fun c => lists_of_pred 3 _ _ _ _ (h c),
    fun m g h => frame_ideal (rolled 4) m g fun c => lists_of_pred 4 _ _ _ _ (h c),
    fun m g h => frame_ideal (rolled 5) m g fun c => lists_of_pred 5 _ _ _ _ (h c),
    fun m g h => frame_ideal (rolled 6) m g fun c => lists_of_pred 6 _ _ _ _ (h c),
    fun m g h => frame_ideal (rolled 7) m g fun c => lists_of_pred 7 _ _ _ _ (h c),
    fun m g h => frame_ideal (rolled 8) m g fun c => lists_of_pred 8 _ _ _ _ (h c),
    fun m g h => frame_ideal (rolled 9) m g fun c => lists_of_pred 9 _ _ _ _ (h c),
    fun m g h => frame_ideal (rolled 10) m g fun c => lists_of_pred 10 _ _ _ _ (h c),
    fun m g h => frame_ideal (rolled 11) m g fun c => lists_of_pred 11 _ _ _ _ (h c),
    fun m g h => frame_ideal (rolled 12) m g fun c => lists_of_pred 12 _ _ _ _ (h c),
    fun m g h => frame_ideal (rolled 13) m g fun c => lists_of_pred 13 _ _ _ _ (h c),
    fun m g h => frame_ideal (rolled 14) m g fun c => lists_of_pred 14 _ _ _ _ (h c),
    fun m g h => frame_ideal (rolled 15) m g fun c => lists_of_pred 15 _ _ _ _ (h c),
    fun m g _ => frame_reference m g,
    fun m g _ => frame_reference m g,
    fun m g _ => frame_reference m g,
    fun m g _ => frame_reference m g,
    fun m g _ => frame_reference m g,
    fun m g _ => frame_reference m g,
    fun m g _ => frame_reference m g,
    fun m g _ => frame_reference m g,
    fun m g _ => frame_reference m g,
    fun m g _ => frame_reference m g,
    fun m g _ => frame_reference m g,
    fun m g _ => frame_reference m g,
    fun m g _ => frame_reference m g,
    fun m g _ => frame_reference m g,
    fun m g _ => frame_reference m g,
    fun m g _ => frame_reference m g,
    trivial,
    fun m g m' g' h => value_ideal (rolled 1) m g m' g' fun c => lists_of_pred 1 _ _ _ _ (h c),
    fun m g m' g' h => value_ideal (rolled 2) m g m' g' fun c => lists_of_pred 2 _ _ _ _ (h c),
    fun m g m' g' h => value_ideal (rolled 3) m g m' g' fun c => lists_of_pred 3 _ _ _ _ (h c),
    fun m g m' g' h => value_ideal (rolled 4) m g m' g' fun c => lists_of_pred 4 _ _ _ _ (h c),
    fun m g m' g' h => value_ideal (rolled 5) m g m' g' fun c => lists_of_pred 5 _ _ _ _ (h c),
    fun m g m' g' h => value_ideal (rolled 6) m g m' g' fun c => lists_of_pred 6 _ _ _ _ (h c),
    fun m g m' g' h => value_ideal (rolled 7) m g m' g' fun c => lists_of_pred 7 _ _ _ _ (h c),
    fun m g m' g' h => value_ideal (rolled 8) m g m' g' fun c => lists_of_pred 8 _ _ _ _ (h c),
    fun m g m' g' h => value_ideal (rolled 9) m g m' g' fun c => lists_of_pred 9 _ _ _ _ (h c),
    fun m g m' g' h => value_ideal (rolled 10) m g m' g' fun c => lists_of_pred 10 _ _ _ _ (h c),
    fun m g m' g' h => value_ideal (rolled 11) m g m' g' fun c => lists_of_pred 11 _ _ _ _ (h c),
    fun m g m' g' h => value_ideal (rolled 12) m g m' g' fun c => lists_of_pred 12 _ _ _ _ (h c),
    fun m g m' g' h => value_ideal (rolled 13) m g m' g' fun c => lists_of_pred 13 _ _ _ _ (h c),
    fun m g m' g' h => value_ideal (rolled 14) m g m' g' fun c => lists_of_pred 14 _ _ _ _ (h c),
    fun m g m' g' h => value_ideal (rolled 15) m g m' g' fun c => lists_of_pred 15 _ _ _ _ (h c)⟩

end Cert.Proof

end
